-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S256x1024 : Shape := ⟨2, ![256, 1024]⟩
abbrev S4x2 : Shape := ⟨2, ![4, 2]⟩
abbrev S3x2 : Shape := ⟨2, ![3, 2]⟩
abbrev S12 : Shape := ⟨1, ![12]⟩
abbrev S_ : Shape := ⟨0, ![]⟩
abbrev S1x1 : Shape := ⟨2, ![1, 1]⟩
abbrev S32x1024 : Shape := ⟨2, ![32, 1024]⟩
abbrev S32 : Shape := ⟨1, ![32]⟩
abbrev S32x1 : Shape := ⟨2, ![32, 1]⟩
abbrev S1x1024 : Shape := ⟨2, ![1, 1024]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .f32⟩
  | .local _ .vmem, ⟨4, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v38 : BitVec 32 := Scalar.muli v2 c8_i32_19
  let v39 : BitVec 32 := Scalar.addi c0_i32_20 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v40 : BitVec 32 := Scalar.muli v5 c4_i32_21
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v27 : BitVec 32 := Scalar.addi v8 c1_i32_12
  let c4_i32_13 : BitVec 32 := 4#32
  let c0_i32 : BitVec 32 := 0#32
  let v28 : BitVec 1 := Scalar.cmpi .eq c4_i32_13 c0_i32
  let c1_i32_14 : BitVec 32 := 1#32
  let v29 : BitVec 32 := Scalar.select v28 c1_i32_14 c4_i32_13
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let c1_i32_22 : BitVec 32 := 1#32
  let v42 : BitVec 32 := Scalar.muli v37 c1_i32_22
  let v43 : BitVec 32 := Scalar.addi v41 v42
  v43.toNat
def k0_dev2 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v55 : BitVec 32 := Scalar.muli v2 c8_i32_31
  let v56 : BitVec 32 := Scalar.addi c0_i32_32 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v57 : BitVec 32 := Scalar.muli v5 c4_i32_33
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_23 : BitVec 32 := 2#32
  let v44 : BitVec 32 := Scalar.addi v8 c2_i32_23
  let c4_i32_24 : BitVec 32 := 4#32
  let c0_i32_25 : BitVec 32 := 0#32
  let v45 : BitVec 1 := Scalar.cmpi .eq c4_i32_24 c0_i32_25
  let c1_i32_26 : BitVec 32 := 1#32
  let v46 : BitVec 32 := Scalar.select v45 c1_i32_26 c4_i32_24
  let v47 : BitVec 32 := Scalar.remsi v44 v46
  let c0_i32_28 : BitVec 32 := 0#32
  let v49 : BitVec 1 := Scalar.cmpi .slt v47 c0_i32_28
  let c0_i32_29 : BitVec 32 := 0#32
  let v50 : BitVec 1 := Scalar.cmpi .slt v46 c0_i32_29
  let v51 : BitVec 1 := Scalar.xori v49 v50
  let c0_i32_27 : BitVec 32 := 0#32
  let v48 : BitVec 1 := Scalar.cmpi .ne v47 c0_i32_27
  let v52 : BitVec 1 := Scalar.andi v51 v48
  let v53 : BitVec 32 := Scalar.addi v47 v46
  let v54 : BitVec 32 := Scalar.select v52 v53 v47
  let c1_i32_34 : BitVec 32 := 1#32
  let v59 : BitVec 32 := Scalar.muli v54 c1_i32_34
  let v60 : BitVec 32 := Scalar.addi v58 v59
  v60.toNat
def k0_dev3 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v72 : BitVec 32 := Scalar.muli v2 c8_i32_42
  let v73 : BitVec 32 := Scalar.addi c0_i32_43 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v74 : BitVec 32 := Scalar.muli v5 c4_i32_44
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v61 : BitVec 32 := Scalar.addi v8 c3_i32
  let c4_i32_35 : BitVec 32 := 4#32
  let c0_i32_36 : BitVec 32 := 0#32
  let v62 : BitVec 1 := Scalar.cmpi .eq c4_i32_35 c0_i32_36
  let c1_i32_37 : BitVec 32 := 1#32
  let v63 : BitVec 32 := Scalar.select v62 c1_i32_37 c4_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c1_i32_45 : BitVec 32 := 1#32
  let v76 : BitVec 32 := Scalar.muli v71 c1_i32_45
  let v77 : BitVec 32 := Scalar.addi v75 v76
  v77.toNat
def k0_dev4 (d0 : Dev nD) : Nat :=
  let c0_i32_48 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_47 : BitVec 32 := 8#32
  let v78 : BitVec 32 := Scalar.muli v14 c8_i32_47
  let v79 : BitVec 32 := Scalar.addi c0_i32_48 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v80 : BitVec 32 := Scalar.muli v5 c4_i32_49
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v82 : BitVec 32 := Scalar.muli v8 c1_i32_50
  let v83 : BitVec 32 := Scalar.addi v81 v82
  v83.toNat
def k0_dev5 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v84 : BitVec 32 := Scalar.muli v2 c8_i32_52
  let v85 : BitVec 32 := Scalar.addi c0_i32_53 v84
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_54 : BitVec 32 := 4#32
  let v86 : BitVec 32 := Scalar.muli v15 c4_i32_54
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v88 : BitVec 32 := Scalar.muli v8 c1_i32_55
  let v89 : BitVec 32 := Scalar.addi v87 v88
  v89.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_68 : BitVec 32 := 0#32
  ![v8.toNat, 0]
def k0_off2 (d0 : Dev nD) (c0_i32_66 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c64_i32_65 : BitVec 32 := 64#32
  let v104 : BitVec 32 := Scalar.muli v8 c64_i32_65
  let v105 : BitVec 32 := Scalar.addi v104 c0_i32_66
  let c0_i32_75 : BitVec 32 := 0#32
  ![v105.toNat, 0]
def k0_off3 (d0 : Dev nD) (c1_i32_56 : BitVec 32) (c0_i32_64 : BitVec 32) : Fin 2 → Nat :=
  let c256_i32 : BitVec 32 := 256#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c256_i32 v10
  let c64_i32_63 : BitVec 32 := 64#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v90 : BitVec 32 := Scalar.addi v8 c1_i32_56
  let c4_i32_57 : BitVec 32 := 4#32
  let c0_i32_58 : BitVec 32 := 0#32
  let v91 : BitVec 1 := Scalar.cmpi .eq c4_i32_57 c0_i32_58
  let c1_i32_59 : BitVec 32 := 1#32
  let v92 : BitVec 32 := Scalar.select v91 c1_i32_59 c4_i32_57
  let v93 : BitVec 32 := Scalar.remsi v90 v92
  let c0_i32_61 : BitVec 32 := 0#32
  let v95 : BitVec 1 := Scalar.cmpi .slt v93 c0_i32_61
  let c0_i32_62 : BitVec 32 := 0#32
  let v96 : BitVec 1 := Scalar.cmpi .slt v92 c0_i32_62
  let v97 : BitVec 1 := Scalar.xori v95 v96
  let c0_i32_60 : BitVec 32 := 0#32
  let v94 : BitVec 1 := Scalar.cmpi .ne v93 c0_i32_60
  let v98 : BitVec 1 := Scalar.andi v97 v94
  let v99 : BitVec 32 := Scalar.addi v93 v92
  let v100 : BitVec 32 := Scalar.select v98 v99 v93
  let v101 : BitVec 32 := Scalar.muli c64_i32_63 v100
  let v102 : BitVec 32 := Scalar.addi v11 v101
  let v103 : BitVec 32 := Scalar.addi v102 c0_i32_64
  let c0_i32_78 : BitVec 32 := 0#32
  ![v103.toNat, 0]
def k0_dev6 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v106 : BitVec 32 := Scalar.muli v2 c8_i32_71
  let v107 : BitVec 32 := Scalar.addi c0_i32_72 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v108 : BitVec 32 := Scalar.muli v5 c4_i32_73
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v90 : BitVec 32 := Scalar.addi v8 c1_i32_56
  let c4_i32_57 : BitVec 32 := 4#32
  let c0_i32_58 : BitVec 32 := 0#32
  let v91 : BitVec 1 := Scalar.cmpi .eq c4_i32_57 c0_i32_58
  let c1_i32_59 : BitVec 32 := 1#32
  let v92 : BitVec 32 := Scalar.select v91 c1_i32_59 c4_i32_57
  let v93 : BitVec 32 := Scalar.remsi v90 v92
  let c0_i32_61 : BitVec 32 := 0#32
  let v95 : BitVec 1 := Scalar.cmpi .slt v93 c0_i32_61
  let c0_i32_62 : BitVec 32 := 0#32
  let v96 : BitVec 1 := Scalar.cmpi .slt v92 c0_i32_62
  let v97 : BitVec 1 := Scalar.xori v95 v96
  let c0_i32_60 : BitVec 32 := 0#32
  let v94 : BitVec 1 := Scalar.cmpi .ne v93 c0_i32_60
  let v98 : BitVec 1 := Scalar.andi v97 v94
  let v99 : BitVec 32 := Scalar.addi v93 v92
  let v100 : BitVec 32 := Scalar.select v98 v99 v93
  let c1_i32_74 : BitVec 32 := 1#32
  let v110 : BitVec 32 := Scalar.muli v100 c1_i32_74
  let v111 : BitVec 32 := Scalar.addi v109 v110
  v111.toNat
def k0_dev7 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v136 : BitVec 32 := Scalar.muli v2 c8_i32_94
  let v137 : BitVec 32 := Scalar.addi c0_i32_95 v136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_96 : BitVec 32 := 4#32
  let v138 : BitVec 32 := Scalar.muli v5 c4_i32_96
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_79 : BitVec 32 := 2#32
  let v120 : BitVec 32 := Scalar.addi v8 c2_i32_79
  let c4_i32_80 : BitVec 32 := 4#32
  let c0_i32_81 : BitVec 32 := 0#32
  let v121 : BitVec 1 := Scalar.cmpi .eq c4_i32_80 c0_i32_81
  let c1_i32_82 : BitVec 32 := 1#32
  let v122 : BitVec 32 := Scalar.select v121 c1_i32_82 c4_i32_80
  let v123 : BitVec 32 := Scalar.remsi v120 v122
  let c0_i32_84 : BitVec 32 := 0#32
  let v125 : BitVec 1 := Scalar.cmpi .slt v123 c0_i32_84
  let c0_i32_85 : BitVec 32 := 0#32
  let v126 : BitVec 1 := Scalar.cmpi .slt v122 c0_i32_85
  let v127 : BitVec 1 := Scalar.xori v125 v126
  let c0_i32_83 : BitVec 32 := 0#32
  let v124 : BitVec 1 := Scalar.cmpi .ne v123 c0_i32_83
  let v128 : BitVec 1 := Scalar.andi v127 v124
  let v129 : BitVec 32 := Scalar.addi v123 v122
  let v130 : BitVec 32 := Scalar.select v128 v129 v123
  let c1_i32_97 : BitVec 32 := 1#32
  let v140 : BitVec 32 := Scalar.muli v130 c1_i32_97
  let v141 : BitVec 32 := Scalar.addi v139 v140
  v141.toNat
def k0_dev8 (d0 : Dev nD) : Nat :=
  let c0_i32_118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_117 : BitVec 32 := 8#32
  let v166 : BitVec 32 := Scalar.muli v2 c8_i32_117
  let v167 : BitVec 32 := Scalar.addi c0_i32_118 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_119 : BitVec 32 := 4#32
  let v168 : BitVec 32 := Scalar.muli v5 c4_i32_119
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_102 : BitVec 32 := 3#32
  let v150 : BitVec 32 := Scalar.addi v8 c3_i32_102
  let c4_i32_103 : BitVec 32 := 4#32
  let c0_i32_104 : BitVec 32 := 0#32
  let v151 : BitVec 1 := Scalar.cmpi .eq c4_i32_103 c0_i32_104
  let c1_i32_105 : BitVec 32 := 1#32
  let v152 : BitVec 32 := Scalar.select v151 c1_i32_105 c4_i32_103
  let v153 : BitVec 32 := Scalar.remsi v150 v152
  let c0_i32_107 : BitVec 32 := 0#32
  let v155 : BitVec 1 := Scalar.cmpi .slt v153 c0_i32_107
  let c0_i32_108 : BitVec 32 := 0#32
  let v156 : BitVec 1 := Scalar.cmpi .slt v152 c0_i32_108
  let v157 : BitVec 1 := Scalar.xori v155 v156
  let c0_i32_106 : BitVec 32 := 0#32
  let v154 : BitVec 1 := Scalar.cmpi .ne v153 c0_i32_106
  let v158 : BitVec 1 := Scalar.andi v157 v154
  let v159 : BitVec 32 := Scalar.addi v153 v152
  let v160 : BitVec 32 := Scalar.select v158 v159 v153
  let c1_i32_120 : BitVec 32 := 1#32
  let v170 : BitVec 32 := Scalar.muli v160 c1_i32_120
  let v171 : BitVec 32 := Scalar.addi v169 v170
  v171.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  ![v8.toNat, 1]
def k0_dev9 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v196 : BitVec 32 := Scalar.muli v2 c8_i32_139
  let v197 : BitVec 32 := Scalar.addi c0_i32_140 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v198 : BitVec 32 := Scalar.muli v5 c4_i32_141
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v180 : BitVec 32 := Scalar.addi v8 c1_i32_125
  let c4_i32_126 : BitVec 32 := 4#32
  let c0_i32_127 : BitVec 32 := 0#32
  let v181 : BitVec 1 := Scalar.cmpi .eq c4_i32_126 c0_i32_127
  let c1_i32_128 : BitVec 32 := 1#32
  let v182 : BitVec 32 := Scalar.select v181 c1_i32_128 c4_i32_126
  let v183 : BitVec 32 := Scalar.remsi v180 v182
  let c0_i32_130 : BitVec 32 := 0#32
  let v185 : BitVec 1 := Scalar.cmpi .slt v183 c0_i32_130
  let c0_i32_131 : BitVec 32 := 0#32
  let v186 : BitVec 1 := Scalar.cmpi .slt v182 c0_i32_131
  let v187 : BitVec 1 := Scalar.xori v185 v186
  let c0_i32_129 : BitVec 32 := 0#32
  let v184 : BitVec 1 := Scalar.cmpi .ne v183 c0_i32_129
  let v188 : BitVec 1 := Scalar.andi v187 v184
  let v189 : BitVec 32 := Scalar.addi v183 v182
  let v190 : BitVec 32 := Scalar.select v188 v189 v183
  let c1_i32_142 : BitVec 32 := 1#32
  let v200 : BitVec 32 := Scalar.muli v190 c1_i32_142
  let v201 : BitVec 32 := Scalar.addi v199 v200
  v201.toNat
def k0_dev10 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v226 : BitVec 32 := Scalar.muli v2 c8_i32_162
  let v227 : BitVec 32 := Scalar.addi c0_i32_163 v226
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v228 : BitVec 32 := Scalar.muli v5 c4_i32_164
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_147 : BitVec 32 := 2#32
  let v210 : BitVec 32 := Scalar.addi v8 c2_i32_147
  let c4_i32_148 : BitVec 32 := 4#32
  let c0_i32_149 : BitVec 32 := 0#32
  let v211 : BitVec 1 := Scalar.cmpi .eq c4_i32_148 c0_i32_149
  let c1_i32_150 : BitVec 32 := 1#32
  let v212 : BitVec 32 := Scalar.select v211 c1_i32_150 c4_i32_148
  let v213 : BitVec 32 := Scalar.remsi v210 v212
  let c0_i32_152 : BitVec 32 := 0#32
  let v215 : BitVec 1 := Scalar.cmpi .slt v213 c0_i32_152
  let c0_i32_153 : BitVec 32 := 0#32
  let v216 : BitVec 1 := Scalar.cmpi .slt v212 c0_i32_153
  let v217 : BitVec 1 := Scalar.xori v215 v216
  let c0_i32_151 : BitVec 32 := 0#32
  let v214 : BitVec 1 := Scalar.cmpi .ne v213 c0_i32_151
  let v218 : BitVec 1 := Scalar.andi v217 v214
  let v219 : BitVec 32 := Scalar.addi v213 v212
  let v220 : BitVec 32 := Scalar.select v218 v219 v213
  let c1_i32_165 : BitVec 32 := 1#32
  let v230 : BitVec 32 := Scalar.muli v220 c1_i32_165
  let v231 : BitVec 32 := Scalar.addi v229 v230
  v231.toNat
def k0_dev11 (d0 : Dev nD) : Nat :=
  let c0_i32_186 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_185 : BitVec 32 := 8#32
  let v256 : BitVec 32 := Scalar.muli v2 c8_i32_185
  let v257 : BitVec 32 := Scalar.addi c0_i32_186 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_187 : BitVec 32 := 4#32
  let v258 : BitVec 32 := Scalar.muli v5 c4_i32_187
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_170 : BitVec 32 := 3#32
  let v240 : BitVec 32 := Scalar.addi v8 c3_i32_170
  let c4_i32_171 : BitVec 32 := 4#32
  let c0_i32_172 : BitVec 32 := 0#32
  let v241 : BitVec 1 := Scalar.cmpi .eq c4_i32_171 c0_i32_172
  let c1_i32_173 : BitVec 32 := 1#32
  let v242 : BitVec 32 := Scalar.select v241 c1_i32_173 c4_i32_171
  let v243 : BitVec 32 := Scalar.remsi v240 v242
  let c0_i32_175 : BitVec 32 := 0#32
  let v245 : BitVec 1 := Scalar.cmpi .slt v243 c0_i32_175
  let c0_i32_176 : BitVec 32 := 0#32
  let v246 : BitVec 1 := Scalar.cmpi .slt v242 c0_i32_176
  let v247 : BitVec 1 := Scalar.xori v245 v246
  let c0_i32_174 : BitVec 32 := 0#32
  let v244 : BitVec 1 := Scalar.cmpi .ne v243 c0_i32_174
  let v248 : BitVec 1 := Scalar.andi v247 v244
  let v249 : BitVec 32 := Scalar.addi v243 v242
  let v250 : BitVec 32 := Scalar.select v248 v249 v243
  let c1_i32_188 : BitVec 32 := 1#32
  let v260 : BitVec 32 := Scalar.muli v250 c1_i32_188
  let v261 : BitVec 32 := Scalar.addi v259 v260
  v261.toNat
def k0_off5 (d0 : Dev nD) (c0_i32_193 : BitVec 32) : Fin 2 → Nat :=
  let c256_i32 : BitVec 32 := 256#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c256_i32 v10
  let c64_i32 : BitVec 32 := 64#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c64_i32 v8
  let v13 : BitVec 32 := Scalar.addi v11 v12
  let v270 : BitVec 32 := Scalar.addi v13 c0_i32_193
  let v273 : Index := Scalar.indexCast v270
  let c0 : Index := 0#32
  ![v273.toNat, 0]
def k0_off6 (d0 : Dev nD) (c1_i32_198 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v280 : BitVec 32 := Scalar.addi v8 c1_i32_198
  let c4_i32_199 : BitVec 32 := 4#32
  let c0_i32_200 : BitVec 32 := 0#32
  let v281 : BitVec 1 := Scalar.cmpi .eq c4_i32_199 c0_i32_200
  let c1_i32_201 : BitVec 32 := 1#32
  let v282 : BitVec 32 := Scalar.select v281 c1_i32_201 c4_i32_199
  let v283 : BitVec 32 := Scalar.remsi v280 v282
  let c0_i32_203 : BitVec 32 := 0#32
  let v285 : BitVec 1 := Scalar.cmpi .slt v283 c0_i32_203
  let c0_i32_204 : BitVec 32 := 0#32
  let v286 : BitVec 1 := Scalar.cmpi .slt v282 c0_i32_204
  let v287 : BitVec 1 := Scalar.xori v285 v286
  let c0_i32_202 : BitVec 32 := 0#32
  let v284 : BitVec 1 := Scalar.cmpi .ne v283 c0_i32_202
  let v288 : BitVec 1 := Scalar.andi v287 v284
  let v289 : BitVec 32 := Scalar.addi v283 v282
  let v290 : BitVec 32 := Scalar.select v288 v289 v283
  let c0_i32_209 : BitVec 32 := 0#32
  ![v290.toNat, 0]
def k0_off7 (d0 : Dev nD) (c1_i32_198 : BitVec 32) (c0_i32_208 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v280 : BitVec 32 := Scalar.addi v8 c1_i32_198
  let c4_i32_199 : BitVec 32 := 4#32
  let c0_i32_200 : BitVec 32 := 0#32
  let v281 : BitVec 1 := Scalar.cmpi .eq c4_i32_199 c0_i32_200
  let c1_i32_201 : BitVec 32 := 1#32
  let v282 : BitVec 32 := Scalar.select v281 c1_i32_201 c4_i32_199
  let v283 : BitVec 32 := Scalar.remsi v280 v282
  let c0_i32_203 : BitVec 32 := 0#32
  let v285 : BitVec 1 := Scalar.cmpi .slt v283 c0_i32_203
  let c0_i32_204 : BitVec 32 := 0#32
  let v286 : BitVec 1 := Scalar.cmpi .slt v282 c0_i32_204
  let v287 : BitVec 1 := Scalar.xori v285 v286
  let c0_i32_202 : BitVec 32 := 0#32
  let v284 : BitVec 1 := Scalar.cmpi .ne v283 c0_i32_202
  let v288 : BitVec 1 := Scalar.andi v287 v284
  let v289 : BitVec 32 := Scalar.addi v283 v282
  let v290 : BitVec 32 := Scalar.select v288 v289 v283
  let c64_i32_207 : BitVec 32 := 64#32
  let v293 : BitVec 32 := Scalar.muli v290 c64_i32_207
  let v294 : BitVec 32 := Scalar.addi v293 c0_i32_208
  let c0_i32_216 : BitVec 32 := 0#32
  ![v294.toNat, 0]
def k0_off8 (d0 : Dev nD) (c1_i32_198 : BitVec 32) (c0_i32_219 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v280 : BitVec 32 := Scalar.addi v8 c1_i32_198
  let c4_i32_199 : BitVec 32 := 4#32
  let c0_i32_200 : BitVec 32 := 0#32
  let v281 : BitVec 1 := Scalar.cmpi .eq c4_i32_199 c0_i32_200
  let c1_i32_201 : BitVec 32 := 1#32
  let v282 : BitVec 32 := Scalar.select v281 c1_i32_201 c4_i32_199
  let v283 : BitVec 32 := Scalar.remsi v280 v282
  let c0_i32_203 : BitVec 32 := 0#32
  let v285 : BitVec 1 := Scalar.cmpi .slt v283 c0_i32_203
  let c0_i32_204 : BitVec 32 := 0#32
  let v286 : BitVec 1 := Scalar.cmpi .slt v282 c0_i32_204
  let v287 : BitVec 1 := Scalar.xori v285 v286
  let c0_i32_202 : BitVec 32 := 0#32
  let v284 : BitVec 1 := Scalar.cmpi .ne v283 c0_i32_202
  let v288 : BitVec 1 := Scalar.andi v287 v284
  let v289 : BitVec 32 := Scalar.addi v283 v282
  let v290 : BitVec 32 := Scalar.select v288 v289 v283
  let c64_i32_218 : BitVec 32 := 64#32
  let v305 : BitVec 32 := Scalar.muli v290 c64_i32_218
  let v306 : BitVec 32 := Scalar.addi v305 c0_i32_219
  let v307 : Index := Scalar.indexCast v306
  let c0_220 : Index := 0#32
  ![v307.toNat, 0]
def k0_off9 (d0 : Dev nD) (c0_i32_193 : BitVec 32) : Fin 2 → Nat :=
  let c256_i32 : BitVec 32 := 256#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c256_i32 v10
  let c64_i32 : BitVec 32 := 64#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c64_i32 v8
  let v13 : BitVec 32 := Scalar.addi v11 v12
  let v270 : BitVec 32 := Scalar.addi v13 c0_i32_193
  let c0_i32_285 : BitVec 32 := 0#32
  ![v270.toNat, 0]
def k0_dev12 (d0 : Dev nD) : Nat :=
  let c0_i32_282 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_281 : BitVec 32 := 8#32
  let v398 : BitVec 32 := Scalar.muli v2 c8_i32_281
  let v399 : BitVec 32 := Scalar.addi c0_i32_282 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_283 : BitVec 32 := 4#32
  let v400 : BitVec 32 := Scalar.muli v5 c4_i32_283
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v387 : BitVec 32 := Scalar.addi v8 c1_i32_271
  let c4_i32_272 : BitVec 32 := 4#32
  let c0_i32_273 : BitVec 32 := 0#32
  let v388 : BitVec 1 := Scalar.cmpi .eq c4_i32_272 c0_i32_273
  let c1_i32_274 : BitVec 32 := 1#32
  let v389 : BitVec 32 := Scalar.select v388 c1_i32_274 c4_i32_272
  let v390 : BitVec 32 := Scalar.remsi v387 v389
  let c0_i32_276 : BitVec 32 := 0#32
  let v392 : BitVec 1 := Scalar.cmpi .slt v390 c0_i32_276
  let c0_i32_277 : BitVec 32 := 0#32
  let v393 : BitVec 1 := Scalar.cmpi .slt v389 c0_i32_277
  let v394 : BitVec 1 := Scalar.xori v392 v393
  let c0_i32_275 : BitVec 32 := 0#32
  let v391 : BitVec 1 := Scalar.cmpi .ne v390 c0_i32_275
  let v395 : BitVec 1 := Scalar.andi v394 v391
  let v396 : BitVec 32 := Scalar.addi v390 v389
  let v397 : BitVec 32 := Scalar.select v395 v396 v390
  let c1_i32_284 : BitVec 32 := 1#32
  let v402 : BitVec 32 := Scalar.muli v397 c1_i32_284
  let v403 : BitVec 32 := Scalar.addi v401 v402
  v403.toNat
def k0_dev13 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v421 : BitVec 32 := Scalar.muli v2 c8_i32_297
  let v422 : BitVec 32 := Scalar.addi c0_i32_298 v421
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_299 : BitVec 32 := 4#32
  let v423 : BitVec 32 := Scalar.muli v5 c4_i32_299
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_287 : BitVec 32 := 2#32
  let v410 : BitVec 32 := Scalar.addi v8 c2_i32_287
  let c4_i32_288 : BitVec 32 := 4#32
  let c0_i32_289 : BitVec 32 := 0#32
  let v411 : BitVec 1 := Scalar.cmpi .eq c4_i32_288 c0_i32_289
  let c1_i32_290 : BitVec 32 := 1#32
  let v412 : BitVec 32 := Scalar.select v411 c1_i32_290 c4_i32_288
  let v413 : BitVec 32 := Scalar.remsi v410 v412
  let c0_i32_292 : BitVec 32 := 0#32
  let v415 : BitVec 1 := Scalar.cmpi .slt v413 c0_i32_292
  let c0_i32_293 : BitVec 32 := 0#32
  let v416 : BitVec 1 := Scalar.cmpi .slt v412 c0_i32_293
  let v417 : BitVec 1 := Scalar.xori v415 v416
  let c0_i32_291 : BitVec 32 := 0#32
  let v414 : BitVec 1 := Scalar.cmpi .ne v413 c0_i32_291
  let v418 : BitVec 1 := Scalar.andi v417 v414
  let v419 : BitVec 32 := Scalar.addi v413 v412
  let v420 : BitVec 32 := Scalar.select v418 v419 v413
  let c1_i32_300 : BitVec 32 := 1#32
  let v425 : BitVec 32 := Scalar.muli v420 c1_i32_300
  let v426 : BitVec 32 := Scalar.addi v424 v425
  v426.toNat
def k0_dev14 (d0 : Dev nD) : Nat :=
  let c0_i32_314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_313 : BitVec 32 := 8#32
  let v444 : BitVec 32 := Scalar.muli v2 c8_i32_313
  let v445 : BitVec 32 := Scalar.addi c0_i32_314 v444
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_315 : BitVec 32 := 4#32
  let v446 : BitVec 32 := Scalar.muli v5 c4_i32_315
  let v447 : BitVec 32 := Scalar.addi v445 v446
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_303 : BitVec 32 := 3#32
  let v433 : BitVec 32 := Scalar.addi v8 c3_i32_303
  let c4_i32_304 : BitVec 32 := 4#32
  let c0_i32_305 : BitVec 32 := 0#32
  let v434 : BitVec 1 := Scalar.cmpi .eq c4_i32_304 c0_i32_305
  let c1_i32_306 : BitVec 32 := 1#32
  let v435 : BitVec 32 := Scalar.select v434 c1_i32_306 c4_i32_304
  let v436 : BitVec 32 := Scalar.remsi v433 v435
  let c0_i32_308 : BitVec 32 := 0#32
  let v438 : BitVec 1 := Scalar.cmpi .slt v436 c0_i32_308
  let c0_i32_309 : BitVec 32 := 0#32
  let v439 : BitVec 1 := Scalar.cmpi .slt v435 c0_i32_309
  let v440 : BitVec 1 := Scalar.xori v438 v439
  let c0_i32_307 : BitVec 32 := 0#32
  let v437 : BitVec 1 := Scalar.cmpi .ne v436 c0_i32_307
  let v441 : BitVec 1 := Scalar.andi v440 v437
  let v442 : BitVec 32 := Scalar.addi v436 v435
  let v443 : BitVec 32 := Scalar.select v441 v442 v436
  let c1_i32_316 : BitVec 32 := 1#32
  let v448 : BitVec 32 := Scalar.muli v443 c1_i32_316
  let v449 : BitVec 32 := Scalar.addi v447 v448
  v449.toNat
def k0_dev15 (d0 : Dev nD) : Nat :=
  let c0_i32_322 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_321 : BitVec 32 := 8#32
  let v456 : BitVec 32 := Scalar.muli v14 c8_i32_321
  let v457 : BitVec 32 := Scalar.addi c0_i32_322 v456
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_323 : BitVec 32 := 4#32
  let v458 : BitVec 32 := Scalar.muli v5 c4_i32_323
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v460 : BitVec 32 := Scalar.muli v8 c1_i32_324
  let v461 : BitVec 32 := Scalar.addi v459 v460
  v461.toNat
def k0_dev16 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_329 : BitVec 32 := 8#32
  let v468 : BitVec 32 := Scalar.muli v2 c8_i32_329
  let v469 : BitVec 32 := Scalar.addi c0_i32_330 v468
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_331 : BitVec 32 := 4#32
  let v470 : BitVec 32 := Scalar.muli v15 c4_i32_331
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v472 : BitVec 32 := Scalar.muli v8 c1_i32_332
  let v473 : BitVec 32 := Scalar.addi v471 v472
  v473.toNat
def k0_off10 (d0 : Dev nD) (c1_i32_341 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v490 : BitVec 32 := Scalar.addi v8 c1_i32_341
  let c4_i32_342 : BitVec 32 := 4#32
  let c0_i32_343 : BitVec 32 := 0#32
  let v491 : BitVec 1 := Scalar.cmpi .eq c4_i32_342 c0_i32_343
  let c1_i32_344 : BitVec 32 := 1#32
  let v492 : BitVec 32 := Scalar.select v491 c1_i32_344 c4_i32_342
  let v493 : BitVec 32 := Scalar.remsi v490 v492
  let c0_i32_346 : BitVec 32 := 0#32
  let v495 : BitVec 1 := Scalar.cmpi .slt v493 c0_i32_346
  let c0_i32_347 : BitVec 32 := 0#32
  let v496 : BitVec 1 := Scalar.cmpi .slt v492 c0_i32_347
  let v497 : BitVec 1 := Scalar.xori v495 v496
  let c0_i32_345 : BitVec 32 := 0#32
  let v494 : BitVec 1 := Scalar.cmpi .ne v493 c0_i32_345
  let v498 : BitVec 1 := Scalar.andi v497 v494
  let v499 : BitVec 32 := Scalar.addi v493 v492
  let v500 : BitVec 32 := Scalar.select v498 v499 v493
  let c1_i32_352 : BitVec 32 := 1#32
  ![v500.toNat, 1]
def k0_dev17 (d0 : Dev nD) : Nat :=
  let c0_i32_426 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_425 : BitVec 32 := 8#32
  let v608 : BitVec 32 := Scalar.muli v2 c8_i32_425
  let v609 : BitVec 32 := Scalar.addi c0_i32_426 v608
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_427 : BitVec 32 := 4#32
  let v610 : BitVec 32 := Scalar.muli v5 c4_i32_427
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v597 : BitVec 32 := Scalar.addi v8 c1_i32_415
  let c4_i32_416 : BitVec 32 := 4#32
  let c0_i32_417 : BitVec 32 := 0#32
  let v598 : BitVec 1 := Scalar.cmpi .eq c4_i32_416 c0_i32_417
  let c1_i32_418 : BitVec 32 := 1#32
  let v599 : BitVec 32 := Scalar.select v598 c1_i32_418 c4_i32_416
  let v600 : BitVec 32 := Scalar.remsi v597 v599
  let c0_i32_420 : BitVec 32 := 0#32
  let v602 : BitVec 1 := Scalar.cmpi .slt v600 c0_i32_420
  let c0_i32_421 : BitVec 32 := 0#32
  let v603 : BitVec 1 := Scalar.cmpi .slt v599 c0_i32_421
  let v604 : BitVec 1 := Scalar.xori v602 v603
  let c0_i32_419 : BitVec 32 := 0#32
  let v601 : BitVec 1 := Scalar.cmpi .ne v600 c0_i32_419
  let v605 : BitVec 1 := Scalar.andi v604 v601
  let v606 : BitVec 32 := Scalar.addi v600 v599
  let v607 : BitVec 32 := Scalar.select v605 v606 v600
  let c1_i32_428 : BitVec 32 := 1#32
  let v612 : BitVec 32 := Scalar.muli v607 c1_i32_428
  let v613 : BitVec 32 := Scalar.addi v611 v612
  v613.toNat
def k0_dev18 (d0 : Dev nD) : Nat :=
  let c0_i32_442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_441 : BitVec 32 := 8#32
  let v631 : BitVec 32 := Scalar.muli v2 c8_i32_441
  let v632 : BitVec 32 := Scalar.addi c0_i32_442 v631
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_443 : BitVec 32 := 4#32
  let v633 : BitVec 32 := Scalar.muli v5 c4_i32_443
  let v634 : BitVec 32 := Scalar.addi v632 v633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_431 : BitVec 32 := 2#32
  let v620 : BitVec 32 := Scalar.addi v8 c2_i32_431
  let c4_i32_432 : BitVec 32 := 4#32
  let c0_i32_433 : BitVec 32 := 0#32
  let v621 : BitVec 1 := Scalar.cmpi .eq c4_i32_432 c0_i32_433
  let c1_i32_434 : BitVec 32 := 1#32
  let v622 : BitVec 32 := Scalar.select v621 c1_i32_434 c4_i32_432
  let v623 : BitVec 32 := Scalar.remsi v620 v622
  let c0_i32_436 : BitVec 32 := 0#32
  let v625 : BitVec 1 := Scalar.cmpi .slt v623 c0_i32_436
  let c0_i32_437 : BitVec 32 := 0#32
  let v626 : BitVec 1 := Scalar.cmpi .slt v622 c0_i32_437
  let v627 : BitVec 1 := Scalar.xori v625 v626
  let c0_i32_435 : BitVec 32 := 0#32
  let v624 : BitVec 1 := Scalar.cmpi .ne v623 c0_i32_435
  let v628 : BitVec 1 := Scalar.andi v627 v624
  let v629 : BitVec 32 := Scalar.addi v623 v622
  let v630 : BitVec 32 := Scalar.select v628 v629 v623
  let c1_i32_444 : BitVec 32 := 1#32
  let v635 : BitVec 32 := Scalar.muli v630 c1_i32_444
  let v636 : BitVec 32 := Scalar.addi v634 v635
  v636.toNat
def k0_dev19 (d0 : Dev nD) : Nat :=
  let c0_i32_458 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_457 : BitVec 32 := 8#32
  let v654 : BitVec 32 := Scalar.muli v2 c8_i32_457
  let v655 : BitVec 32 := Scalar.addi c0_i32_458 v654
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_459 : BitVec 32 := 4#32
  let v656 : BitVec 32 := Scalar.muli v5 c4_i32_459
  let v657 : BitVec 32 := Scalar.addi v655 v656
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_447 : BitVec 32 := 3#32
  let v643 : BitVec 32 := Scalar.addi v8 c3_i32_447
  let c4_i32_448 : BitVec 32 := 4#32
  let c0_i32_449 : BitVec 32 := 0#32
  let v644 : BitVec 1 := Scalar.cmpi .eq c4_i32_448 c0_i32_449
  let c1_i32_450 : BitVec 32 := 1#32
  let v645 : BitVec 32 := Scalar.select v644 c1_i32_450 c4_i32_448
  let v646 : BitVec 32 := Scalar.remsi v643 v645
  let c0_i32_452 : BitVec 32 := 0#32
  let v648 : BitVec 1 := Scalar.cmpi .slt v646 c0_i32_452
  let c0_i32_453 : BitVec 32 := 0#32
  let v649 : BitVec 1 := Scalar.cmpi .slt v645 c0_i32_453
  let v650 : BitVec 1 := Scalar.xori v648 v649
  let c0_i32_451 : BitVec 32 := 0#32
  let v647 : BitVec 1 := Scalar.cmpi .ne v646 c0_i32_451
  let v651 : BitVec 1 := Scalar.andi v650 v647
  let v652 : BitVec 32 := Scalar.addi v646 v645
  let v653 : BitVec 32 := Scalar.select v651 v652 v646
  let c1_i32_460 : BitVec 32 := 1#32
  let v658 : BitVec 32 := Scalar.muli v653 c1_i32_460
  let v659 : BitVec 32 := Scalar.addi v657 v658
  v659.toNat
def k0_dev20 (d0 : Dev nD) : Nat :=
  let c0_i32_466 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_465 : BitVec 32 := 8#32
  let v666 : BitVec 32 := Scalar.muli v14 c8_i32_465
  let v667 : BitVec 32 := Scalar.addi c0_i32_466 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_467 : BitVec 32 := 4#32
  let v668 : BitVec 32 := Scalar.muli v5 c4_i32_467
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v670 : BitVec 32 := Scalar.muli v8 c1_i32_468
  let v671 : BitVec 32 := Scalar.addi v669 v670
  v671.toNat
def k0_dev21 (d0 : Dev nD) : Nat :=
  let c0_i32_474 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_473 : BitVec 32 := 8#32
  let v678 : BitVec 32 := Scalar.muli v2 c8_i32_473
  let v679 : BitVec 32 := Scalar.addi c0_i32_474 v678
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_475 : BitVec 32 := 4#32
  let v680 : BitVec 32 := Scalar.muli v15 c4_i32_475
  let v681 : BitVec 32 := Scalar.addi v679 v680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v682 : BitVec 32 := Scalar.muli v8 c1_i32_476
  let v683 : BitVec 32 := Scalar.addi v681 v682
  v683.toNat
def k0_dev22 (d0 : Dev nD) : Nat :=
  let c0_i32_500 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_499 : BitVec 32 := 8#32
  let v714 : BitVec 32 := Scalar.muli v14 c8_i32_499
  let v715 : BitVec 32 := Scalar.addi c0_i32_500 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_501 : BitVec 32 := 4#32
  let v716 : BitVec 32 := Scalar.muli v5 c4_i32_501
  let v717 : BitVec 32 := Scalar.addi v715 v716
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v718 : BitVec 32 := Scalar.muli v8 c1_i32_502
  let v719 : BitVec 32 := Scalar.addi v717 v718
  v719.toNat
def k0_dev23 (d0 : Dev nD) : Nat :=
  let c0_i32_508 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_507 : BitVec 32 := 8#32
  let v726 : BitVec 32 := Scalar.muli v2 c8_i32_507
  let v727 : BitVec 32 := Scalar.addi c0_i32_508 v726
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_509 : BitVec 32 := 4#32
  let v728 : BitVec 32 := Scalar.muli v15 c4_i32_509
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v730 : BitVec 32 := Scalar.muli v8 c1_i32_510
  let v731 : BitVec 32 := Scalar.addi v729 v730
  v731.toNat
def k0_dev24 (d0 : Dev nD) : Nat :=
  let c0_i32_534 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_533 : BitVec 32 := 8#32
  let v762 : BitVec 32 := Scalar.muli v14 c8_i32_533
  let v763 : BitVec 32 := Scalar.addi c0_i32_534 v762
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_535 : BitVec 32 := 4#32
  let v764 : BitVec 32 := Scalar.muli v5 c4_i32_535
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v766 : BitVec 32 := Scalar.muli v8 c1_i32_536
  let v767 : BitVec 32 := Scalar.addi v765 v766
  v767.toNat
def k0_dev25 (d0 : Dev nD) : Nat :=
  let c0_i32_542 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_541 : BitVec 32 := 8#32
  let v774 : BitVec 32 := Scalar.muli v2 c8_i32_541
  let v775 : BitVec 32 := Scalar.addi c0_i32_542 v774
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_543 : BitVec 32 := 4#32
  let v776 : BitVec 32 := Scalar.muli v15 c4_i32_543
  let v777 : BitVec 32 := Scalar.addi v775 v776
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v778 : BitVec 32 := Scalar.muli v8 c1_i32_544
  let v779 : BitVec 32 := Scalar.addi v777 v778
  v779.toNat
def k0_dev26 (d0 : Dev nD) : Nat :=
  let c0_i32_568 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_567 : BitVec 32 := 8#32
  let v810 : BitVec 32 := Scalar.muli v14 c8_i32_567
  let v811 : BitVec 32 := Scalar.addi c0_i32_568 v810
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_569 : BitVec 32 := 4#32
  let v812 : BitVec 32 := Scalar.muli v5 c4_i32_569
  let v813 : BitVec 32 := Scalar.addi v811 v812
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v814 : BitVec 32 := Scalar.muli v8 c1_i32_570
  let v815 : BitVec 32 := Scalar.addi v813 v814
  v815.toNat
def k0_dev27 (d0 : Dev nD) : Nat :=
  let c0_i32_576 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_575 : BitVec 32 := 8#32
  let v822 : BitVec 32 := Scalar.muli v2 c8_i32_575
  let v823 : BitVec 32 := Scalar.addi c0_i32_576 v822
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_577 : BitVec 32 := 4#32
  let v824 : BitVec 32 := Scalar.muli v15 c4_i32_577
  let v825 : BitVec 32 := Scalar.addi v823 v824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v826 : BitVec 32 := Scalar.muli v8 c1_i32_578
  let v827 : BitVec 32 := Scalar.addi v825 v826
  v827.toNat
def k0_dev28 (d0 : Dev nD) : Nat :=
  let c0_i32_602 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_601 : BitVec 32 := 8#32
  let v858 : BitVec 32 := Scalar.muli v14 c8_i32_601
  let v859 : BitVec 32 := Scalar.addi c0_i32_602 v858
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_603 : BitVec 32 := 4#32
  let v860 : BitVec 32 := Scalar.muli v5 c4_i32_603
  let v861 : BitVec 32 := Scalar.addi v859 v860
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_604 : BitVec 32 := 1#32
  let v862 : BitVec 32 := Scalar.muli v8 c1_i32_604
  let v863 : BitVec 32 := Scalar.addi v861 v862
  v863.toNat
def k0_dev29 (d0 : Dev nD) : Nat :=
  let c0_i32_610 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_609 : BitVec 32 := 8#32
  let v870 : BitVec 32 := Scalar.muli v2 c8_i32_609
  let v871 : BitVec 32 := Scalar.addi c0_i32_610 v870
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_611 : BitVec 32 := 4#32
  let v872 : BitVec 32 := Scalar.muli v15 c4_i32_611
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_612 : BitVec 32 := 1#32
  let v874 : BitVec 32 := Scalar.muli v8 c1_i32_612
  let v875 : BitVec 32 := Scalar.addi v873 v874
  v875.toNat
def k0_dev30 (d0 : Dev nD) : Nat :=
  let c0_i32_635 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_634 : BitVec 32 := 8#32
  let v906 : BitVec 32 := Scalar.muli v14 c8_i32_634
  let v907 : BitVec 32 := Scalar.addi c0_i32_635 v906
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_636 : BitVec 32 := 4#32
  let v908 : BitVec 32 := Scalar.muli v5 c4_i32_636
  let v909 : BitVec 32 := Scalar.addi v907 v908
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_637 : BitVec 32 := 1#32
  let v910 : BitVec 32 := Scalar.muli v8 c1_i32_637
  let v911 : BitVec 32 := Scalar.addi v909 v910
  v911.toNat
def k0_dev31 (d0 : Dev nD) : Nat :=
  let c0_i32_643 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_642 : BitVec 32 := 8#32
  let v918 : BitVec 32 := Scalar.muli v2 c8_i32_642
  let v919 : BitVec 32 := Scalar.addi c0_i32_643 v918
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_644 : BitVec 32 := 4#32
  let v920 : BitVec 32 := Scalar.muli v15 c4_i32_644
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_645 : BitVec 32 := 1#32
  let v922 : BitVec 32 := Scalar.muli v8 c1_i32_645
  let v923 : BitVec 32 := Scalar.addi v921 v922
  v923.toNat
def k0_dev32 (d0 : Dev nD) : Nat :=
  let c0_i32_668 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_667 : BitVec 32 := 8#32
  let v954 : BitVec 32 := Scalar.muli v14 c8_i32_667
  let v955 : BitVec 32 := Scalar.addi c0_i32_668 v954
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_669 : BitVec 32 := 4#32
  let v956 : BitVec 32 := Scalar.muli v5 c4_i32_669
  let v957 : BitVec 32 := Scalar.addi v955 v956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v958 : BitVec 32 := Scalar.muli v8 c1_i32_670
  let v959 : BitVec 32 := Scalar.addi v957 v958
  v959.toNat
def k0_dev33 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v966 : BitVec 32 := Scalar.muli v2 c8_i32_675
  let v967 : BitVec 32 := Scalar.addi c0_i32_676 v966
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_677 : BitVec 32 := 4#32
  let v968 : BitVec 32 := Scalar.muli v15 c4_i32_677
  let v969 : BitVec 32 := Scalar.addi v967 v968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_678 : BitVec 32 := 1#32
  let v970 : BitVec 32 := Scalar.muli v8 c1_i32_678
  let v971 : BitVec 32 := Scalar.addi v969 v970
  v971.toNat
def k0_off11 (d0 : Dev nD) (c0_i32_682 : BitVec 32) (c0_i32_683 : BitVec 32) : Fin 2 → Nat :=
  let c256_i32_681 : BitVec 32 := 256#32
  let c2_i32_6 : BitVec 32 := 2#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_5 v2
  let v17 : BitVec 32 := Scalar.muli c2_i32_6 v16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.addi v17 v5
  let v978 : BitVec 32 := Scalar.muli c256_i32_681 v18
  let v979 : BitVec 32 := Scalar.addi v978 c0_i32_682
  let v980 : BitVec 32 := Scalar.addi v979 c0_i32_683
  let c0_i32_691 : BitVec 32 := 0#32
  ![v980.toNat, 0]
def k0_off12 (d0 : Dev nD) (c0_i32_694 : BitVec 32) (c0_i32_695 : BitVec 32) : Fin 2 → Nat :=
  let c256_i32_693 : BitVec 32 := 256#32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.muli c2_i32_7 v2
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let v21 : BitVec 32 := Scalar.addi v19 v20
  let v991 : BitVec 32 := Scalar.muli c256_i32_693 v21
  let v992 : BitVec 32 := Scalar.addi v991 c0_i32_694
  let v993 : BitVec 32 := Scalar.addi v992 c0_i32_695
  let c0_i32_703 : BitVec 32 := 0#32
  ![v993.toNat, 0]
def k0_dev34 (d0 : Dev nD) : Nat :=
  let c0_i32_709 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_708 : BitVec 32 := 8#32
  let v1004 : BitVec 32 := Scalar.muli v14 c8_i32_708
  let v1005 : BitVec 32 := Scalar.addi c0_i32_709 v1004
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_710 : BitVec 32 := 4#32
  let v1006 : BitVec 32 := Scalar.muli v5 c4_i32_710
  let v1007 : BitVec 32 := Scalar.addi v1005 v1006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v1008 : BitVec 32 := Scalar.muli v8 c1_i32_711
  let v1009 : BitVec 32 := Scalar.addi v1007 v1008
  v1009.toNat
def k0_dev35 (d0 : Dev nD) : Nat :=
  let c0_i32_730 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_729 : BitVec 32 := 8#32
  let v1029 : BitVec 32 := Scalar.muli v2 c8_i32_729
  let v1030 : BitVec 32 := Scalar.addi c0_i32_730 v1029
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_731 : BitVec 32 := 4#32
  let v1031 : BitVec 32 := Scalar.muli v15 c4_i32_731
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v1033 : BitVec 32 := Scalar.muli v8 c1_i32_732
  let v1034 : BitVec 32 := Scalar.addi v1032 v1033
  v1034.toNat
def k0_dev36 (d0 : Dev nD) : Nat :=
  let c0_i32_773 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_772 : BitVec 32 := 8#32
  let v1080 : BitVec 32 := Scalar.muli v14 c8_i32_772
  let v1081 : BitVec 32 := Scalar.addi c0_i32_773 v1080
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_774 : BitVec 32 := 4#32
  let v1082 : BitVec 32 := Scalar.muli v5 c4_i32_774
  let v1083 : BitVec 32 := Scalar.addi v1081 v1082
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_775 : BitVec 32 := 1#32
  let v1084 : BitVec 32 := Scalar.muli v8 c1_i32_775
  let v1085 : BitVec 32 := Scalar.addi v1083 v1084
  v1085.toNat
def k0_dev37 (d0 : Dev nD) : Nat :=
  let c0_i32_793 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_792 : BitVec 32 := 8#32
  let v1105 : BitVec 32 := Scalar.muli v2 c8_i32_792
  let v1106 : BitVec 32 := Scalar.addi c0_i32_793 v1105
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_794 : BitVec 32 := 4#32
  let v1107 : BitVec 32 := Scalar.muli v15 c4_i32_794
  let v1108 : BitVec 32 := Scalar.addi v1106 v1107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_795 : BitVec 32 := 1#32
  let v1109 : BitVec 32 := Scalar.muli v8 c1_i32_795
  let v1110 : BitVec 32 := Scalar.addi v1108 v1109
  v1110.toNat
def k0_dev38 (d0 : Dev nD) : Nat :=
  let c0_i32_837 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_836 : BitVec 32 := 8#32
  let v1156 : BitVec 32 := Scalar.muli v14 c8_i32_836
  let v1157 : BitVec 32 := Scalar.addi c0_i32_837 v1156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_838 : BitVec 32 := 4#32
  let v1158 : BitVec 32 := Scalar.muli v5 c4_i32_838
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v1160 : BitVec 32 := Scalar.muli v8 c1_i32_839
  let v1161 : BitVec 32 := Scalar.addi v1159 v1160
  v1161.toNat
def k0_dev39 (d0 : Dev nD) : Nat :=
  let c0_i32_858 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_857 : BitVec 32 := 8#32
  let v1181 : BitVec 32 := Scalar.muli v2 c8_i32_857
  let v1182 : BitVec 32 := Scalar.addi c0_i32_858 v1181
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_859 : BitVec 32 := 4#32
  let v1183 : BitVec 32 := Scalar.muli v15 c4_i32_859
  let v1184 : BitVec 32 := Scalar.addi v1182 v1183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_860 : BitVec 32 := 1#32
  let v1185 : BitVec 32 := Scalar.muli v8 c1_i32_860
  let v1186 : BitVec 32 := Scalar.addi v1184 v1185
  v1186.toNat
def k0_dev40 (d0 : Dev nD) : Nat :=
  let c0_i32_902 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_3 v2
  let c8_i32_901 : BitVec 32 := 8#32
  let v1232 : BitVec 32 := Scalar.muli v14 c8_i32_901
  let v1233 : BitVec 32 := Scalar.addi c0_i32_902 v1232
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_903 : BitVec 32 := 4#32
  let v1234 : BitVec 32 := Scalar.muli v5 c4_i32_903
  let v1235 : BitVec 32 := Scalar.addi v1233 v1234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_904 : BitVec 32 := 1#32
  let v1236 : BitVec 32 := Scalar.muli v8 c1_i32_904
  let v1237 : BitVec 32 := Scalar.addi v1235 v1236
  v1237.toNat
def k0_dev41 (d0 : Dev nD) : Nat :=
  let c0_i32_923 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_922 : BitVec 32 := 8#32
  let v1257 : BitVec 32 := Scalar.muli v2 c8_i32_922
  let v1258 : BitVec 32 := Scalar.addi c0_i32_923 v1257
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_4 v5
  let c4_i32_924 : BitVec 32 := 4#32
  let v1259 : BitVec 32 := Scalar.muli v15 c4_i32_924
  let v1260 : BitVec 32 := Scalar.addi v1258 v1259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_925 : BitVec 32 := 1#32
  let v1261 : BitVec 32 := Scalar.muli v8 c1_i32_925
  let v1262 : BitVec 32 := Scalar.addi v1260 v1261
  v1262.toNat
def k0_off13 (d0 : Dev nD) (c0_i32_941 : BitVec 32) (c0_i32_942 : BitVec 32) : Fin 2 → Nat :=
  let c256_i32_940 : BitVec 32 := 256#32
  let c2_i32_10 : BitVec 32 := 2#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let v23 : BitVec 32 := Scalar.muli c2_i32_10 v22
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.subi c1_i32_11 v5
  let v25 : BitVec 32 := Scalar.addi v23 v24
  let v1282 : BitVec 32 := Scalar.muli c256_i32_940 v25
  let v1283 : BitVec 32 := Scalar.addi v1282 c0_i32_941
  let v1284 : BitVec 32 := Scalar.addi v1283 c0_i32_942
  let c0_i32_950 : BitVec 32 := 0#32
  ![v1284.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Proto.lean ====
/-
  The protocol of the all-reduce as data: who holds what, who signals whom, in which order.

  A device is a number below 16, device 4p + z standing at place z of plane p. The result has 32 chunks; chunk (b, h) is the half h (32 rows) of the block of 64 rows that device b computes.
  Semaphore cells of a device are numbered as the program numbers its DMA semaphores (4 to 79); number 0 is the barrier semaphore.

  An `Atom` names one resource, an `Ins` one step of a device. `exec` runs a device's steps on a list of atoms and on the list of payments the device still owes, checking that every resource
  a step uses is there and that every wait is below all that is owed. That the sixteen devices' step lists run is a finite computation (`instrs_run` in `Runs`).
-/
module

public import Mathlib.Data.List.Perm.Basic

@[expose] public section

namespace AllReduce

/-- One resource. Devices, chunks, cells and shares are numbers. A share is the node of a binary tree of halves: 1 is everything, 2k and 2k+1 are the halves of k. -/
inductive Atom
  /-- result chunk (b, h) on device d, with any contents -/
  | oraw (d b h : ℕ)
  /-- chunk (s, h) of device d's landing buffer, with any contents -/
  | rraw (d s h : ℕ)
  /-- share q of the result chunk (b, h) on device d, with its final contents -/
  | o (d b h q : ℕ)
  /-- chunk (s, h) of device d's landing buffer, with what the peer at place s sends there -/
  | r (d s h : ℕ)
  /-- chunk (b, h) of device d's copy of its first input -/
  | x (d b h : ℕ)
  /-- device d's copy of the second input -/
  | resid (d : ℕ)
  /-- device d's copy of the third input -/
  | gamma (d : ℕ)
  /-- the right to pay cell n of device d -/
  | tok (d n : ℕ)
  /-- the right to pay unit i of device d's barrier cell -/
  | btok (d i : ℕ)
  /-- the owner's position at cell n of device d, nothing received -/
  | pos (d n : ℕ)
  /-- the units that pay the wait on cell n of device d -/
  | cred (d n : ℕ)
  /-- cell n of device d after its last wait -/
  | dn (d n : ℕ)
  deriving DecidableEq

/-- The place of a device in its plane, and its plane. -/
abbrev zc (c : ℕ) : ℕ := c % 4
@[inherit_doc zc] abbrev pl (c : ℕ) : ℕ := c / 4
/-- The device k places on in the same plane; the neighbors along the two other axes. -/
abbrev zp (c k : ℕ) : ℕ := 4 * (c / 4) + (c % 4 + k) % 4
@[inherit_doc zp] abbrev xn (c : ℕ) : ℕ := (c + 8) % 16
@[inherit_doc zp] abbrev yn (c : ℕ) : ℕ := 8 * (c / 8) + (c + 4) % 8
/-- The planes of the two neighbors, and the plane across. -/
abbrev px (c : ℕ) : ℕ := (c / 4 + 2) % 4
@[inherit_doc px] abbrev py (c : ℕ) : ℕ := c / 4 + 1 - 2 * (c / 4 % 2)
@[inherit_doc px] abbrev pd (c : ℕ) : ℕ := 3 - c / 4

/-- A device's duty to itself and to others on its DMA cells: what one round of cell n of device d delivers, nothing where the cell is not used. -/
def pay (d n : ℕ) : List Atom :=
  if n < 4 then []
  else if n < 12 then let s := (n - 4) / 2; if s = zc d then [] else [.r d s (n % 2)]
  else if n < 18 then [.x d (zp d ((n - 12) / 2 + 1)) (n % 2)]
  else if n < 26 then let s := (n - 18) / 2; if s = zc d then [] else [.o d (4 * pl d + s) (n % 2) 1]
  else if n < 32 then [.o d d (n % 2) ([2, 6, 14].getD ((n - 26) / 2) 0)]
  else if n < 40 then [.o d (4 * px d + (n - 32) / 2) (n % 2) 1]
  else if n < 48 then [.o d (4 * py d + (n - 40) / 2) (n % 2) 1]
  else if n < 56 then [.o d (4 * pd d + (n - 48) / 2) (n % 2) 1]
  else if n < 68 then
    let i := n - 56
    if i < 2 then [.o d d i 30] else if i < 8 then [.o d (zp d ((i - 2) % 3 + 1)) ((i - 2) / 3) 2] else [.o d (4 * py d + 2 * (i % 2)) ((i - 8) / 2) 1]
  else if n < 80 then
    let i := n - 68
    if i < 2 then [.o d d i 31] else if i < 8 then [.o d (zp d ((i - 2) % 3 + 1)) ((i - 2) / 3) 3] else [.o d (4 * px d + 2 * (i % 2) + 1) ((i - 8) / 2) 1]
  else []

/-- The device that pays unit i of device w's barrier cell. -/
def barFrom (w i : ℕ) : ℕ := if i < 3 then zp w (3 - i) else if i = 3 then xn w else yn w

/-- What unit i of device w's barrier cell delivers: the places on the paying device where w's copies will land. -/
def barPay (w i : ℕ) : List Atom :=
  let c := barFrom w i
  if i < 3 then [.rraw c (zc w) 0, .rraw c (zc w) 1, .oraw c w 0, .oraw c w 1]
  else if i = 3 then
    (List.range 8).map (fun k => .oraw c (4 * pl w + k / 2) (k % 2)) ++ (List.range 4).map fun k => .oraw c (4 * py w + 2 * (k / 2)) (k % 2)
  else if i = 4 then
    (List.range 8).map (fun k => .oraw c (4 * pl w + k / 2) (k % 2)) ++ (List.range 4).map fun k => .oraw c (4 * px w + 2 * (k / 2) + 1) (k % 2)
  else []

/-- The level of a cell: the barrier, then the receive cells in the order of the phases; send cells below all. -/
def lvl (n : ℕ) : ℕ :=
  cond (n.beq 0) 1 (cond (n.blt 4) 0 (cond (n.blt 12) 2 (cond (n.blt 18) 0 (cond (n.blt 26) 3 (cond (n.blt 32) 0 (cond (n.blt 48) 4 (cond (n.blt 56) 5 0)))))))

/-- One step of a device c. -/
inductive Ins
  /-- pay unit i of device d's barrier cell -/
  | sig (d i : ℕ)
  /-- wait for the five units of the barrier cell -/
  | bwait
  /-- copy the result chunk (b, h), read at share q, to device d, by the send cell ss and d's receive cell rs -/
  | osend (d ss rs b h q : ℕ)
  /-- copy chunk (d, h) of the first input to the landing buffer of device d -/
  | rsend (d ss rs h : ℕ)
  /-- wait on cell n -/
  | wait (n : ℕ)
  /-- compute half h of the device's own block -/
  | comp (h : ℕ)
  /-- halve share q of the result chunk (b, h) -/
  | split (b h q : ℕ)
  /-- put the halves of share q of the result chunk (b, h) together -/
  | join (b h q : ℕ)

/-- The receive cell on which the landing from the peer k places on is waited for. -/
abbrev rsCell (c k h : ℕ) : ℕ := 4 + 2 * ((c % 4 + k) % 4) + h

/-- What a step of device c uses up. -/
def need (c : ℕ) : Ins → List Atom
  | .sig d i => .btok d i :: barPay d i
  | .bwait => [.cred c 0, .pos c 0]
  | .osend d ss rs b h q => [.tok c ss, .tok d rs, .o c b h q, .oraw d b h]
  | .rsend d ss rs h => [.tok c ss, .tok d rs, .x c d h, .rraw d (zc c) h]
  | .wait n => [.cred c n, .pos c n]
  | .comp h => [.x c c h, .resid c, .gamma c, .oraw c c h, .cred c (rsCell c 1 h), .pos c (rsCell c 1 h),
      .cred c (rsCell c 2 h), .pos c (rsCell c 2 h), .cred c (rsCell c 3 h), .pos c (rsCell c 3 h)]
  | .split b h q => [.o c b h q]
  | .join b h q => [.o c b h (2 * q), .o c b h (2 * q + 1)]

/-- What a step of device c yields. -/
def give (c : ℕ) : Ins → List Atom
  | .sig _ _ => []
  | .bwait => .dn c 0 :: (List.range 5).flatMap (barPay c)
  | .osend _ ss _ _ _ _ => [.cred c ss]
  | .rsend _ ss _ _ => [.cred c ss]
  | .wait n => .dn c n :: pay c n
  | .comp h => [.x c c h, .resid c, .gamma c, .o c c h 1, .dn c (rsCell c 1 h), .r c ((c % 4 + 1) % 4) h,
      .dn c (rsCell c 2 h), .r c ((c % 4 + 2) % 4) h, .dn c (rsCell c 3 h), .r c ((c % 4 + 3) % 4) h]
  | .split b h q => [.o c b h (2 * q), .o c b h (2 * q + 1)]
  | .join b h q => [.o c b h q]

/-- The payment a step makes: a device and a cell. -/
def pays : Ins → List (ℕ × ℕ)
  | .sig d _ => [(d, 0)]
  | .osend d _ rs _ _ _ => [(d, rs)]
  | .rsend d _ rs _ => [(d, rs)]
  | _ => []

/-- Whether all that is owed lies above a level. -/
def above (l : ℕ) (rem : List (ℕ × ℕ)) : Bool := List.rec true (fun p _ ih => cond (l.blt (lvl p.2)) ih false) rem

/-- Whether a cell number is that of a DMA semaphore of the exchange. -/
def isDma (n : ℕ) : Prop := 4 ≤ n ∧ n < 80
instance (n : ℕ) : Decidable (isDma n) := inferInstanceAs (Decidable (_ ∧ _))

/-- What is asked of a step of device c beside its resources: that it keeps to the tables. -/
def Fits (c : ℕ) : Ins → Prop
  | .sig d i => d < 16 ∧ i < 5
  | .osend d ss rs b h q => d < 16 ∧ b < 16 ∧ h < 2 ∧ isDma ss ∧ isDma rs ∧ lvl ss = 0 ∧ pay c ss = [.o c b h q] ∧ pay d rs = [.o d b h 1]
  | .rsend d ss rs h => d < 16 ∧ h < 2 ∧ isDma ss ∧ isDma rs ∧ lvl ss = 0 ∧ pl c = pl d ∧ pay c ss = [.x c d h] ∧ pay d rs = [.r d (zc c) h]
  | .wait n => isDma n ∧ pay c n ≠ []
  | .comp h => h < 2
  | .split _ _ q => 1 ≤ q
  | .join _ _ q => 1 ≤ q
  | .bwait => True

instance (c : ℕ) (i : Ins) : Decidable (Fits c i) := by cases i <;> (unfold Fits; infer_instance)

/-- The level of the wait in a step, if it has one. -/
def waitLvl : Ins → Option ℕ
  | .bwait => some 1
  | .wait n => some (lvl n)
  | .comp _ => some 2
  | _ => none

/-- Whether a step of device c, after which `rem` is still owed, keeps to the tables and waits only below all that is owed. -/
def ok (c : ℕ) (rem : List (ℕ × ℕ)) (i : Ins) : Bool := cond (Option.rec true (fun l => above l rem) (waitLvl i)) (decide (Fits c i)) false

/-- A number of an atom, by which atoms are told apart quickly. Nothing depends on two atoms having two numbers. -/
def Atom.code : Atom → ℕ
  | .oraw d b h => 12 * (d + 16 * (b + 16 * h))
  | .rraw d s h => 12 * (d + 16 * (s + 16 * h)) + 1
  | .o d b h q => 12 * (d + 16 * (b + 16 * (h + 2 * q))) + 2
  | .r d s h => 12 * (d + 16 * (s + 16 * h)) + 3
  | .x d b h => 12 * (d + 16 * (b + 16 * h)) + 4
  | .resid d => 12 * d + 5
  | .gamma d => 12 * d + 6
  | .tok d n => 12 * (d + 16 * n) + 7
  | .btok d i => 12 * (d + 16 * i) + 8
  | .pos d n => 12 * (d + 16 * n) + 9
  | .cred d n => 12 * (d + 16 * n) + 10
  | .dn d n => 12 * (d + 16 * n) + 11

/-- A number handed on in evaluated form. -/
def force {α : Type} (n : ℕ) (k : ℕ → α) : α := Nat.rec (k 0) (fun m _ => k (m + 1)) n

/-- An atom with its number. -/
def tag (a : Atom) : ℕ × Atom := force a.code fun n => (n, a)

/-- Numbered atoms put on a list. -/
def push (k : List Atom) (l : List (ℕ × Atom)) : List (ℕ × Atom) := List.rec l (fun a _ ih => tag a :: ih) k

/-- A list without one occurrence of an atom. -/
def rm (n : ℕ) (a : Atom) (l : List (ℕ × Atom)) : Option (List (ℕ × Atom)) :=
  List.rec none (fun b l ih => cond (n.beq b.1) (cond (decide (a = b.2)) (some l) none) (Option.rec none (fun l' => some (b :: l')) ih)) l

/-- A list without one occurrence of each of the atoms of another. -/
def rmAll (k : List Atom) : List (ℕ × Atom) → Option (List (ℕ × Atom)) :=
  List.rec (motive := fun _ => List (ℕ × Atom) → Option (List (ℕ × Atom))) some
    (fun a _ ih l => Option.rec none ih (force a.code fun n => rm n a l)) k

/-- Payments left after those of a step, if these come first. -/
def payOff (k rem : List (ℕ × ℕ)) : Option (List (ℕ × ℕ)) :=
  match k, rem with
  | [], rem => some rem
  | _ :: _, [] => none
  | (d, n) :: _, (d', n') :: rem => cond (d.beq d' && n.beq n') (some rem) none

/-- A device's steps run on the resources it has and the payments it owes. -/
def exec (c : ℕ) (is : List Ins) : List (ℕ × Atom) → List (ℕ × ℕ) → Option (List (ℕ × Atom)) :=
  List.rec (motive := fun _ => List (ℕ × Atom) → List (ℕ × ℕ) → Option (List (ℕ × Atom)))
    (fun st rem => List.rec (some st) (fun _ _ _ => none) rem)
    (fun i _ ih st rem => Option.rec none
      (fun rem' => cond (ok c rem' i) (Option.rec none (fun st' => ih (push (give c i) st') rem') (rmAll (need c i) st)) none)
      (payOff (pays i) rem)) is

/-- The barrier. -/
def barSteps (c : ℕ) : List Ins := [.sig (zp c 1) 0, .sig (zp c 2) 1, .sig (zp c 3) 2, .sig (xn c) 3, .sig (yn c) 4, .bwait]

/-- The pieces of the input go to the peers that sum them. -/
def rsSteps (c : ℕ) : List Ins := [0, 1].flatMap fun h : ℕ => [0, 1, 2].map fun k : ℕ => Ins.rsend (zp c (k + 1)) (12 + 2 * k + h) (4 + 2 * zc c + h) h

/-- The own block is computed, half by half, and sent on. -/
def ownSteps (c : ℕ) : List Ins := [0, 1].flatMap fun h : ℕ =>
  [Ins.comp h, Ins.split c h 1, Ins.split c h 3, Ins.split c h 7, Ins.split c h 15,
    Ins.osend (zp c 1) (26 + h) (18 + 2 * zc c + h) c h 2, Ins.osend (zp c 2) (28 + h) (18 + 2 * zc c + h) c h 6, Ins.osend (zp c 3) (30 + h) (18 + 2 * zc c + h) c h 14,
    Ins.osend (xn c) (56 + h) (32 + 2 * zc c + h) c h 30, Ins.osend (yn c) (68 + h) (40 + 2 * zc c + h) c h 31]

/-- The peers' blocks arrive and are sent on along both other axes. -/
def peerSteps (c : ℕ) : List Ins := [0, 1].flatMap fun h : ℕ => [0, 1, 2].flatMap fun k : ℕ =>
  [Ins.wait (18 + 2 * ((zc c + (k + 1)) % 4) + h), Ins.split (zp c (k + 1)) h 1,
    Ins.osend (xn c) (58 + 3 * h + k) (32 + 2 * ((zc c + (k + 1)) % 4) + h) (zp c (k + 1)) h 2,
    Ins.osend (yn c) (70 + 3 * h + k) (40 + 2 * ((zc c + (k + 1)) % 4) + h) (zp c (k + 1)) h 3]

/-- The neighbor planes' blocks arrive; half of each plane's is sent on across. -/
def nbrSteps (c : ℕ) : List Ins := [0, 1].flatMap fun h : ℕ => [0, 1].flatMap fun k : ℕ =>
  [Ins.wait (32 + 4 * k + h), Ins.wait (40 + 4 * k + h), Ins.osend (xn c) (64 + 2 * h + k) (48 + 4 * k + h) (4 * py c + 2 * k) h 1,
    Ins.wait (34 + 4 * k + h), Ins.osend (yn c) (76 + 2 * h + k) (50 + 4 * k + h) (4 * px c + 2 * k + 1) h 1, Ins.wait (42 + 4 * k + h)]

/-- The blocks of the plane across arrive. -/
def acrossSteps : List Ins := [0, 1].flatMap fun h : ℕ => [0, 1, 2, 3].map fun z : ℕ => Ins.wait (48 + 2 * z + h)

/-- The sends are waited for, in the order they were started. -/
def sentSteps : List Ins :=
  ([0, 1].flatMap fun h : ℕ => [0, 1, 2].map fun k : ℕ => Ins.wait (12 + 2 * k + h))
  ++ (([0, 1].flatMap fun h : ℕ => [Ins.wait (26 + h), Ins.wait (28 + h), Ins.wait (30 + h), Ins.wait (56 + h), Ins.wait (68 + h)])
  ++ (([0, 1].flatMap fun h : ℕ => [0, 1, 2].flatMap fun k : ℕ => [Ins.wait (58 + 3 * h + k), Ins.wait (70 + 3 * h + k)])
  ++ ([0, 1].flatMap fun h : ℕ => [0, 1].flatMap fun k : ℕ => [Ins.wait (64 + 2 * h + k), Ins.wait (76 + 2 * h + k)])))

/-- The shares of the blocks that were sent are put together. -/
def joinSteps (c : ℕ) : List Ins :=
  ([0, 1].flatMap fun h : ℕ => [Ins.join c h 15, Ins.join c h 7, Ins.join c h 3, Ins.join c h 1])
  ++ ([0, 1].flatMap fun h : ℕ => [0, 1, 2].map fun k : ℕ => Ins.join (zp c (k + 1)) h 1)

/-- The steps of device c, in program order. -/
def instrs (c : ℕ) : List Ins :=
  barSteps c ++ (rsSteps c ++ (ownSteps c ++ (peerSteps c ++ (nbrSteps c ++ (acrossSteps ++ (sentSteps ++ joinSteps c))))))

/-- Everything device c pays, in program order. -/
def dues (c : ℕ) : List (ℕ × ℕ) := (instrs c).flatMap pays

/-- The 32 chunks of a buffer of 1024 rows. -/
def chunks : List (ℕ × ℕ) := (List.range 16).flatMap fun b => [(b, 0), (b, 1)]

/-- The buffers device c holds at the start. -/
def startBufs (c : ℕ) : List Atom :=
  .resid c :: .gamma c :: (chunks.map fun p => .x c p.1 p.2) ++ (chunks.map fun p => .oraw c p.1 p.2) ++ (chunks.take 8).map fun p => .rraw c p.1 p.2

/-- The buffers device c holds at the end. -/
def endBufs (c : ℕ) : List Atom :=
  .resid c :: .gamma c :: (chunks.map fun p => .x c p.1 p.2) ++ (chunks.map fun p => .o c p.1 p.2 1)
    ++ (chunks.take 8).map fun p => if p.1 = zc c then .rraw c p.1 p.2 else .r c p.1 p.2

/-- The DMA cells of a device, and those of device c that are used. -/
def cells : List ℕ := (List.range 76).map (· + 4)
@[inherit_doc cells] def used (c : ℕ) : List ℕ := cells.filter fun n => (pay c n) ≠ []
/-- Whether a cell is one its own device pays. -/
def isSend (n : ℕ) : Bool := lvl n = 0

/-- The positions device c holds at the start: on its barrier cell and its used DMA cells. The unused ones have nothing to wait for. -/
def startPos (c : ℕ) : List Atom := .pos c 0 :: cells.map fun n => if pay c n = [] then .dn c n else .pos c n
/-- The same at the end. -/
def endPos (c : ℕ) : List Atom := .dn c 0 :: cells.map fun n => .dn c n
/-- The units device c can spend at the start: on its barrier cell and its receive cells. -/
def startCred (c : ℕ) : List Atom := .cred c 0 :: ((used c).filter fun n => !isSend n).map fun n => .cred c n
/-- The rights to pay that device c has at the start. -/
def startTok (c : ℕ) : List Atom :=
  ((used c).filter isSend).map (fun n => .tok c n) ++ ((dues c).filter fun p => p.2 ≠ 0).map (fun p => .tok p.1 p.2)
    ++ [.btok (zp c 1) 0, .btok (zp c 2) 1, .btok (zp c 3) 2, .btok (xn c) 3, .btok (yn c) 4]

/-- All that device c has at the start. -/
def start (c : ℕ) : List Atom := startTok c ++ startCred c ++ startPos c ++ startBufs c
/-- All that device c has at the end. -/
def finish (c : ℕ) : List Atom := endPos c ++ endBufs c

end AllReduce
-- ==== Proof.Exec.lean ====
/-
  What a successful run of a step list says about the lists of atoms, as permutations.
-/
module

public import proofs.«01_k».proof.Proof.Proto

@[expose] public section

namespace AllReduce

theorem force_eq {α : Type} (n : ℕ) (k : ℕ → α) : force n k = k n := by cases n <;> rfl

theorem tag_snd (a : Atom) : (tag a).2 = a := by rw [tag, force_eq]

/-- The atoms of a list with numbers. -/
abbrev atoms (l : List (ℕ × Atom)) : List Atom := l.map Prod.snd

theorem atoms_push (k : List Atom) (l : List (ℕ × Atom)) : atoms (push k l) = k ++ atoms l := by
  induction k with
  | nil => rfl
  | cons a k ih => show atoms (tag a :: push k l) = _; rw [atoms, List.map_cons, tag_snd]; exact congrArg (a :: ·) ih

/-- What `rm` takes out is there. -/
theorem rm_perm {n : ℕ} {a : Atom} {l l' : List (ℕ × Atom)} (h : rm n a l = some l') : (atoms l).Perm (a :: atoms l') := by
  induction l generalizing l' with
  | nil => exact absurd h (by show ¬ none = some l'; exact fun h => by cases h)
  | cons b l ih =>
    have h' : cond (n.beq b.1) (cond (decide (a = b.2)) (some l) none) (Option.rec none (fun l' => some (b :: l')) (rm n a l)) = some l' := h
    cases hb : n.beq b.1 with
    | true =>
      rw [hb] at h'
      by_cases e : a = b.2
      · rw [decide_eq_true e] at h'; cases h'; rw [e]; exact List.Perm.refl _
      · rw [decide_eq_false e] at h'; cases h'
    | false =>
      rw [hb] at h'
      cases hr : rm n a l with
      | none => rw [hr] at h'; cases h'
      | some m =>
        rw [hr] at h'; cases h'
        exact ((ih hr).cons b.2).trans (List.Perm.swap _ _ _)

theorem rmAll_perm {k : List Atom} {l l' : List (ℕ × Atom)} (h : rmAll k l = some l') : (atoms l).Perm (k ++ atoms l') := by
  induction k generalizing l with
  | nil => cases (show some l = some l' from h); exact List.Perm.refl _
  | cons a k ih =>
    have h' : Option.rec none (rmAll k) (force a.code fun n => rm n a l) = some l' := h
    rw [force_eq] at h'
    cases hr : rm a.code a l with
    | none => rw [hr] at h'; cases h'
    | some m => rw [hr] at h'; exact (rm_perm hr).trans ((ih h').cons a)

theorem exec_nil {c : ℕ} {st fin : List (ℕ × Atom)} {rem : List (ℕ × ℕ)} (h : exec c [] st rem = some fin) : rem = [] ∧ st = fin := by
  cases rem with
  | nil => exact ⟨rfl, by cases (show some st = some fin from h); rfl⟩
  | cons p r => cases (show none = some fin from h)

/-- One step of a successful run. -/
theorem exec_cons {c : ℕ} {i : Ins} {is : List Ins} {st fin : List (ℕ × Atom)} {rem : List (ℕ × ℕ)} (h : exec c (i :: is) st rem = some fin) :
    ∃ rem' st', payOff (pays i) rem = some rem' ∧ ok c rem' i = true ∧ rmAll (need c i) st = some st' ∧ exec c is (push (give c i) st') rem' = some fin := by
  have h' : Option.rec none (fun rem' => cond (ok c rem' i) (Option.rec none (fun st' => exec c is (push (give c i) st') rem') (rmAll (need c i) st)) none)
      (payOff (pays i) rem) = some fin := h
  cases hp : payOff (pays i) rem with
  | none => rw [hp] at h'; cases h'
  | some rem' =>
    rw [hp] at h'
    cases ho : ok c rem' i with
    | false => simp only [ho, cond_false] at h'; cases h'
    | true =>
      simp only [ho, cond_true] at h'
      cases hr : rmAll (need c i) st with
      | none => rw [hr] at h'; cases h'
      | some st' => rw [hr] at h'; exact ⟨rem', st', rfl, ho, rfl, h'⟩

theorem payOff_nil {rem rem' : List (ℕ × ℕ)} (h : payOff [] rem = some rem') : rem = rem' := by
  cases rem <;> (cases (show some _ = some rem' from h); rfl)

theorem payOff_one {p : ℕ × ℕ} {rem rem' : List (ℕ × ℕ)} (h : payOff [p] rem = some rem') : rem = p :: rem' := by
  cases rem with
  | nil => cases (show none = some rem' from h)
  | cons q rem =>
    have h' : cond (p.1.beq q.1 && p.2.beq q.2) (some rem) none = some rem' := h
    cases hb : (p.1.beq q.1 && p.2.beq q.2) with
    | false => rw [hb] at h'; cases h'
    | true =>
      rw [hb] at h'; cases h'
      rw [Bool.and_eq_true] at hb
      rw [show p = q from Prod.ext (Nat.eq_of_beq_eq_true hb.1) (Nat.eq_of_beq_eq_true hb.2)]

theorem above_lt {l : ℕ} {rem : List (ℕ × ℕ)} (h : above l rem = true) : ∀ p ∈ rem, l < lvl p.2 := by
  induction rem with
  | nil => intro p hp; cases hp
  | cons q rem ih =>
    have h' : cond (l.blt (lvl q.2)) (above l rem) false = true := h
    cases hb : l.blt (lvl q.2) with
    | false => rw [hb] at h'; cases h'
    | true =>
      rw [hb] at h'
      intro p hp
      rcases List.mem_cons.mp hp with rfl | hp
      · exact Nat.blt_eq.mp hb
      · exact ih h' p hp

/-- What is checked of a step. -/
theorem ok_fits {c : ℕ} {rem : List (ℕ × ℕ)} {i : Ins} (h : ok c rem i = true) : Fits c i ∧ ∀ l, waitLvl i = some l → ∀ p ∈ rem, l < lvl p.2 := by
  unfold ok at h
  cases hw : waitLvl i with
  | none =>
    simp only [hw, cond_true, decide_eq_true_eq] at h
    exact ⟨h, fun l hl => by cases hl⟩
  | some l =>
    simp only [hw] at h
    cases ha : above l rem with
    | false => rw [ha] at h; cases h
    | true =>
      rw [ha] at h
      exact ⟨of_decide_eq_true h, fun l' hl => by cases hl; exact above_lt ha⟩

theorem lvl_lt (n : ℕ) : lvl n < 6 := by
  unfold lvl
  cases n.beq 0 <;> cases n.blt 4 <;> cases n.blt 12 <;> cases n.blt 18 <;> cases n.blt 26 <;> cases n.blt 32 <;> cases n.blt 48 <;> cases n.blt 56 <;> decide

theorem lvl_zero : lvl 0 = 1 := rfl

end AllReduce
-- ==== Proof.Views.lean ====
/-
  What the atoms of the protocol stand for in the kernel's memory, and the rounds of its semaphore cells.

  Contents are given by what the devices' three input buffers hold (X, Y, G: one buffer each per device). The final result is the same buffer on every device: chunk (b, h) is computed from
  what device b and its three peers along z hold.
-/
module

public import proofs.«01_k».proof.Proof.Proto
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.TalkSites
public import Idealize.ShloMosaic.Lib.Rounds
public import Idealize.ShloMosaic.Lib.Tactic

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds component: cells, duties numbered. -/
abbrev URr : Type := URounds (GSem nD τ sig) ℕ
/-- The ghost state: the pipeline's staging cells, the exchange's cells. -/
abbrev UU : Type := UR sig nD τ × URr

local notation "𝕄" => MT nD τ sig ℕ (Elt F) ℕ UU ℕ

/-- The two components of the ghost state. -/
abbrev EP : Emb (UR sig nD τ) (MT nD τ sig ℕ (Elt F) ℕ UU ℕ) := embL
@[inherit_doc EP] abbrev ER : Emb URr (MT nD τ sig ℕ (Elt F) ℕ UU ℕ) := embR

/-! ## Devices, cells, buffers -/

/-- The device of a number. -/
def dv (d : ℕ) : Dev nD := ⟨d % 16, Nat.mod_lt _ (by decide)⟩

theorem dv_val (c : Dev nD) : dv c.val = c := Fin.ext (Nat.mod_eq_of_lt c.isLt)
theorem val_dv {d : ℕ} (h : d < 16) : (dv d).val = d := Nat.mod_eq_of_lt h

/-- The semaphore of a cell number. -/
def sl (n : ℕ) : SemLoc sig := if n = 0 then .reg barrier0 else .dma ⟨n % 80, Nat.mod_lt _ (by decide)⟩
/-- The cell of a device and a number. -/
abbrev gcell (d n : ℕ) : GSem nD τ sig := ((dv d : Thread nD τ), sl n)

/-- The buffers: the copies of the three inputs, the result, the landing buffer. -/
abbrev xB : Memref sig .tc .vmem S1x1024x1024 .f32 := Memref.whole cc0_stg0_0
@[inherit_doc xB] abbrev yB : Memref sig .tc .vmem S1024x1024 .f32 := Memref.whole cc0_stg1_0
@[inherit_doc xB] abbrev gB : Memref sig .tc .vmem S1024 .f32 := Memref.whole cc0_stg2_0
@[inherit_doc xB] abbrev oB : Memref sig .tc .vmem S1024x1024 .f32 := Memref.whole cc0_stg3_0
@[inherit_doc xB] abbrev sB : Memref sig .tc .vmem S256x1024 .f32 := Memref.whole cc0_scratch0
/-- The first input without its leading axis of one. -/
abbrev xQ : Memref sig .tc .vmem S1024x1024 .f32 :=
  (xB.slice (Rect.unit ![0, 0, 0] S1x1024x1024.size inb_S1x1024x1024_S1x1024x1024_0_0_0) (fun _ => rfl)).squeeze S1024x1024 squeezes_S1x1024x1024_S1024x1024

theorem rows_inb (b h : ℕ) : ∀ a, (![64 * (b % 16) + 32 * (h % 2), 0] : Fin 2 → ℕ) a + S32x1024.size a ≤ S1024x1024.size a :=
  Rect.inb₂ (by show 64 * (b % 16) + 32 * (h % 2) + 32 ≤ 1024; omega) (by show 0 + 1024 ≤ 1024; omega)
theorem srows_inb (s h : ℕ) : ∀ a, (![64 * (s % 4) + 32 * (h % 2), 0] : Fin 2 → ℕ) a + S32x1024.size a ≤ S256x1024.size a :=
  Rect.inb₂ (by show 64 * (s % 4) + 32 * (h % 2) + 32 ≤ 256; omega) (by show 0 + 1024 ≤ 1024; omega)

/-- The rows of chunk (b, h) of a buffer of 1024 rows, of chunk (s, h) of one of 256. -/
abbrev rows (b h : ℕ) : Rect S1024x1024 := Rect.unit ![64 * (b % 16) + 32 * (h % 2), 0] S32x1024.size (rows_inb b h)
@[inherit_doc rows] abbrev srows (s h : ℕ) : Rect S256x1024 := Rect.unit ![64 * (s % 4) + 32 * (h % 2), 0] S32x1024.size (srows_inb s h)

/-- The chunks of the result, of the landing buffer, of the first input. -/
abbrev oV (b h : ℕ) : Memref sig .tc .vmem S32x1024 .f32 := oB.slice (rows b h) (fun _ => rfl)
@[inherit_doc oV] abbrev sV (s h : ℕ) : Memref sig .tc .vmem S32x1024 .f32 := sB.slice (srows s h) (fun _ => rfl)
@[inherit_doc oV] abbrev xV (b h : ℕ) : Memref sig .tc .vmem S32x1024 .f32 := xQ.slice (rows b h) (fun _ => rfl)

/-- The units a copy of one chunk credits. -/
abbrev N : ℕ := (oV 0 0).view.dmaCredit
theorem N_pos : 0 < N := View.dmaCredit_pos _ (by decide)
theorem oV_credit (b h : ℕ) : (oV b h).view.dmaCredit = N := rfl
theorem sV_credit (s h : ℕ) : (sV s h).view.dmaCredit = N := rfl

/-! ## Contents -/

/-- What a device's three input buffers hold. -/
structure Inputs (F : FTy → Type) where
  X : Dev nD → (cc0_stg0_0 : Ref sig .tc).ty.Contents (Elt F)
  Y : Dev nD → (cc0_stg1_0 : Ref sig .tc).ty.Contents (Elt F)
  G : Dev nD → (cc0_stg2_0 : Ref sig .tc).ty.Contents (Elt F)

variable (I : Inputs F)

/-- Chunk (b, h) of the first input of device d. -/
def xchunk (d b h : ℕ) : S32x1024.Idx → Elt F .f32 := (xV b h).view.read (Elt F) (I.X (dv d))
/-- Chunk (b, h) of the second input of device d. -/
def ychunk (d b h : ℕ) : S32x1024.Idx → Elt F .f32 := (yB.access (rows b h)).read (Elt F) (I.Y (dv d))

/-- Half h of the block device b computes, from device b's inputs and the three peers' pieces. -/
def outChunk (b h : ℕ) : S32x1024.Idx → Elt F .f32 :=
  k0_pay4 (k0_pay3 (k0_pay2 (k0_pay1 (xchunk I b b h) (ychunk I b b h)) (xchunk I (zp b 1) b h)) (xchunk I (zp b 2) b h)) (xchunk I (zp b 3) b h) (I.G (dv b))

/-- The place in its chunk of an index of a buffer of 1024 rows, of 256 rows. -/
def inChunk (i : S1024x1024.Idx) : S32x1024.Idx := fun a => match a with
  | 0 => ⟨(i 0).val % 32, Nat.mod_lt _ (by decide)⟩
  | 1 => ⟨(i 1).val, (i 1).isLt⟩
@[inherit_doc inChunk] def inChunkS (i : S256x1024.Idx) : S32x1024.Idx := fun a => match a with
  | 0 => ⟨(i 0).val % 32, Nat.mod_lt _ (by decide)⟩
  | 1 => ⟨(i 1).val, (i 1).isLt⟩

/-- The final result, on every device. -/
def OUT : (cc0_stg3_0 : Ref sig .tc).ty.Contents (Elt F) := fun i => outChunk I ((i 0).val / 64) ((i 0).val / 32 % 2) (inChunk i)
/-- What lands in device d's landing buffer: at place s, the piece of the first input of the peer at s that belongs to device d. -/
def RS (d : ℕ) : (cc0_scratch0 : Ref sig .tc).ty.Contents (Elt F) := fun i => xchunk I (4 * pl d + (i 0).val / 64) d ((i 0).val / 32 % 2) (inChunkS i)

/-! ## Shares -/

/-- The share at a node of the tree of halves. -/
def shr (q : ℕ) : PosShare TreeShare := if h : q ≤ 1 then fullShare else if q % 2 = 0 then (shr (q / 2)).left else (shr (q / 2)).right
termination_by q
decreasing_by all_goals omega

theorem shr_one : shr 1 = fullShare := by rw [shr, dif_pos (le_refl 1)]
theorem shr_even {q : ℕ} (h : 1 ≤ q) : shr (2 * q) = (shr q).left := by
  rw [shr, dif_neg (by omega), if_pos (by omega)]; congr 2; omega
theorem shr_odd {q : ℕ} (h : 1 ≤ q) : shr (2 * q + 1) = (shr q).right := by
  rw [shr, dif_neg (by omega), if_neg (by omega)]; congr 2; omega

/-! ## Atoms -/

/-- The duties of a cell's one round: five units on a barrier cell, one on a DMA cell that is used. -/
def duties (g : GSem nD τ sig) (r : ℕ) : Finset ℕ :=
  if r = 0 then match g.2 with
    | .reg _ => Finset.range 5
    | .dma s => if pay g.1.1.val s.val = [] then ∅ else {0}
  else ∅

/-- The rights over chunk (b, h) of device d's result at share q, with the given contents. -/
abbrev oPts (d b h : ℕ) (q : PosShare TreeShare) (f : (cc0_stg3_0 : Ref sig .tc).ty.Contents (Elt F)) : sProp 𝕄 :=
  (oV b h).view.loc (dv d : Thread nD τ) ↦[(oV b h).view.set]{q} f
/-- The rights over chunk (s, h) of device d's landing buffer, with the given contents. -/
abbrev sPts (d s h : ℕ) (f : (cc0_scratch0 : Ref sig .tc).ty.Contents (Elt F)) : sProp 𝕄 :=
  (sV s h).view.loc (dv d : Thread nD τ) ↦[(sV s h).view.set]{fullShare} f

/-- What an atom stands for. -/
def den : Atom → sProp 𝕄
  | .oraw d b h => iprop(∃ f, oPts d b h fullShare f)
  | .rraw d s h => iprop(∃ f, sPts d s h f)
  | .o d b h q => oPts d b h (shr q) (OUT I)
  | .r d s h => sPts d s h (RS I d)
  | .x d b h => (xV b h).view.loc (dv d : Thread nD τ) ↦[(xV b h).view.set]{fullShare} (I.X (dv d))
  | .resid d => yB.view.loc (dv d : Thread nD τ) ↦[yB.view.set]{fullShare} (I.Y (dv d))
  | .gamma d => gB.view.loc (dv d : Thread nD τ) ↦[gB.view.set]{fullShare} (I.G (dv d))
  | .tok d n => dutyTok ER (gcell d n) 0 0
  | .btok d i => dutyTok ER (gcell d 0) 0 i
  | .pos d n => atPos ER (gcell d n) 0 ∅ 0
  | .cred d n => cred (tallyAt (gcell d n) (lvl n) (if n = 0 then 5 else N))
  | .dn d n => iprop(∃ R, ⌜∀ r, R ≤ r → duties (gcell d n) r = ∅⌝ ∗ atPos ER (gcell d n) R ∅ 0)

instance den_storable (a : Atom) : BI.Storable (upEmb : UEmb _ 𝕄) (den I a) := by
  cases a <;> (unfold den; infer_instance)

/-- Atoms side by side. -/
abbrev sepA (l : List Atom) : sProp 𝕄 := bigSepL l (den I)

instance sepA_storable (l : List Atom) : BI.Storable (upEmb : UEmb _ 𝕄) (sepA I l) := by
  induction l with
  | nil => exact (inferInstance : BI.Storable (upEmb : UEmb _ 𝕄) (iprop(emp) : sProp 𝕄))
  | cons a l ih => unfold sepA at *; rw [bigSepL_cons']; infer_instance

/-- The rounds of the cells: one round each. -/
def Rd : Schedule (GSem nD τ sig) ℕ 𝕄 where
  duties := duties
  amount g _ _ := match g.2 with | .reg _ => 1 | .dma _ => N
  payload g _ d := sepA I (match g.2 with | .reg _ => barPay g.1.1.val d | .dma s => pay g.1.1.val s.val)
  amount_pos g _ _ _ := by rcases g with ⟨_, _ | _⟩; exacts [Nat.one_pos, N_pos]
  unitless _ := False

instance Rd_storable (g : GSem nD τ sig) (r d : ℕ) : BI.Storable (upEmb : UEmb _ 𝕄) ((Rd I).payload g r d) := by
  show BI.Storable _ (sepA I _); infer_instance

end AllReduce
-- ==== Proof.Rules.lean ====
/-
  One step of a device in the program logic: what each kind of step of the protocol does, with its resources given as atoms.
-/
module

public import proofs.«01_k».proof.Proof.Exec
public import proofs.«01_k».proof.Proof.Views

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay)

variable {F : FTy → Type} [FloatOps F]

local notation "𝕄" => MT nD τ sig ℕ (Elt F) ℕ UU ℕ

variable (I : Inputs F)

/-! ## Atoms side by side -/

theorem sepA_cons (a : Atom) (l : List Atom) : sepA I (a :: l) = iprop(den I a ∗ sepA I l) := bigSepL_cons' a l _
theorem sepA_append (l l' : List Atom) : sepA I (l ++ l') = iprop(sepA I l ∗ sepA I l') := bigSepL_append l l' _

theorem sepA_perm {l l' : List Atom} (h : l.Perm l') : sepA I l = sepA I l' := by
  induction h with
  | nil => rfl
  | cons a _ ih => rw [sepA_cons, sepA_cons, ih]
  | swap a b l =>
    simp only [sepA_cons]
    exact BI.Entails.antisymm (sep_left_comm (PROP := sProp 𝕄)).1 (sep_left_comm (PROP := sProp 𝕄)).1
  | trans _ _ h1 h2 => exact h1.trans h2

theorem den_tok (d : ℕ) {n : ℕ} {s : SemLoc sig} (h : sl n = s) : den I (.tok d n) = dutyTok ER ((dv d : Thread nD τ), s) 0 0 := by subst h; rfl
theorem den_btok (d i : ℕ) : den I (.btok d i) = dutyTok ER ((dv d : Thread nD τ), .reg barrier0) 0 i := rfl
theorem den_pos (d : ℕ) {n : ℕ} {s : SemLoc sig} (h : sl n = s) : den I (.pos d n) = atPos ER ((dv d : Thread nD τ), s) 0 ∅ 0 := by subst h; rfl
theorem den_cred0 (d : ℕ) : den I (.cred d 0) = cred (tallyAt ((dv d : Thread nD τ), .reg barrier0) 1 5) := rfl
theorem den_cred (d : ℕ) {n : ℕ} {s : SemLoc sig} (h : sl n = s) (hn : n ≠ 0) : den I (.cred d n) = cred (tallyAt ((dv d : Thread nD τ), s) (lvl n) N) := by
  subst h; show cred (tallyAt _ _ (if n = 0 then 5 else N)) = _; rw [if_neg hn]
theorem den_dn (d : ℕ) {n : ℕ} {s : SemLoc sig} (h : sl n = s) :
    den I (.dn d n) = iprop(∃ R, ⌜∀ r, R ≤ r → duties ((dv d : Thread nD τ), s) r = ∅⌝ ∗ atPos ER ((dv d : Thread nD τ), s) R ∅ 0) := by subst h; rfl

/-! ## The tables of the rounds -/

theorem sl_zero : sl 0 = .reg barrier0 := if_pos rfl
theorem sl_dma {n : ℕ} (h : isDma n) : sl n = .dma ⟨n, h.2⟩ := by
  unfold isDma at h
  unfold sl
  rw [if_neg (by omega)]
  exact congrArg SemLoc.dma (Fin.ext (Nat.mod_eq_of_lt h.2))

theorem duties_bar (c : ℕ) : (Rd I).duties (gcell c 0) 0 = Finset.range 5 := by
  show duties (gcell c 0) 0 = _
  unfold gcell; rw [sl_zero]; rfl
theorem amount_bar (c i : ℕ) : (Rd I).amount (gcell c 0) 0 i = 1 := by
  unfold gcell; rw [sl_zero]; rfl
theorem payload_bar {c : ℕ} (hc : c < 16) (i : ℕ) : (Rd I).payload (gcell c 0) 0 i = sepA I (barPay c i) := by
  unfold gcell; rw [sl_zero]
  show sepA I (barPay (dv c).val i) = _
  rw [val_dv hc]
theorem expect_bar (c : ℕ) : (Rd I).expect (gcell c 0) 0 = 5 := by
  unfold Schedule.expect Schedule.amountOf
  rw [duties_bar, Finset.sum_congr rfl fun i _ => amount_bar I c i]; rfl

theorem duties_dma {c n : ℕ} (hc : c < 16) (hn : isDma n) (hp : pay c n ≠ []) : (Rd I).duties (gcell c n) 0 = {0} := by
  show duties (gcell c n) 0 = _
  unfold gcell; rw [sl_dma hn]
  show (if pay (dv c).val n = [] then ∅ else {0}) = _
  rw [val_dv hc, if_neg hp]
theorem amount_dma {c n : ℕ} (hn : isDma n) (i : ℕ) : (Rd I).amount (gcell c n) 0 i = N := by
  unfold gcell; rw [sl_dma hn]; rfl
theorem payload_dma {c n : ℕ} (hc : c < 16) (hn : isDma n) (i : ℕ) : (Rd I).payload (gcell c n) 0 i = sepA I (pay c n) := by
  unfold gcell; rw [sl_dma hn]
  show sepA I (pay (dv c).val n) = _
  rw [val_dv hc]
theorem expect_dma {c n : ℕ} (hc : c < 16) (hn : isDma n) (hp : pay c n ≠ []) : (Rd I).expect (gcell c n) 0 = N := by
  unfold Schedule.expect Schedule.amountOf
  rw [duties_dma I hc hn hp, Finset.sum_singleton, amount_dma I hn]

theorem duties_later (g : GSem nD τ sig) (r : ℕ) (h : 0 + 1 ≤ r) : duties g r = ∅ := if_neg (by omega)

theorem rest_bar {c : ℕ} (hc : c < 16) : bigSep ((Rd I).duties (gcell c 0) 0 \ ∅) (fun i => (Rd I).payload (gcell c 0) 0 i)
    = sepA I ((List.range 5).flatMap (barPay c)) := by
  rw [Finset.sdiff_empty, duties_bar, bigSep_eq_bigSepL_of_eq (List.range 5) (by decide) (by decide)]
  simp only [payload_bar I hc]
  rw [show (List.range 5) = [0, 1, 2, 3, 4] from rfl]
  simp only [List.flatMap_cons, List.flatMap_nil, List.append_nil, sepA_append, bigSepL_cons_cons, bigSepL_singleton]
  rfl
theorem rest_dma {c n : ℕ} (hc : c < 16) (hn : isDma n) (hp : pay c n ≠ []) :
    bigSep ((Rd I).duties (gcell c n) 0 \ ∅) (fun i => (Rd I).payload (gcell c n) 0 i) = sepA I (pay c n) := by
  rw [Finset.sdiff_empty, duties_dma I hc hn hp, bigSep_singleton, payload_dma I hc hn]

/-! ## What all devices know -/

/-- The exchange's cells: sixteen devices, the barrier cell and 76 DMA cells of each. -/
abbrev KI : Type := Dev nD × Fin 77
/-- The number of a cell. -/
def num (k : Fin 77) : ℕ := if k.val = 0 then 0 else k.val + 3
/-- The cell of an index. -/
abbrev kcell (x : KI) : GSem nD τ sig := gcell x.1.val (num x.2)

/-- What all devices know: the levels; at every cell, that it runs by the rounds and that round 0 is reached. -/
def ctx (κ : KI → ℕ) : sProp 𝕄 :=
  iprop(levAts (SiteBlocks.L 6) SiteBlocks.lv ∗ bigSep Finset.univ fun x : KI => iprop(cellInv ER (Rd I) (κ x) (kcell x) ∗ reached ER (kcell x) 0))

instance ctx_persistent (κ : KI → ℕ) : BI.Persistent (ctx I κ) := by unfold ctx; infer_instance

theorem ctx_cell (κ : KI → ℕ) {d n : ℕ} (hd : d < 16) (hn : n = 0 ∨ isDma n) :
    ctx I κ ⊢ iprop(∃ κ' : ℕ, cellInv ER (Rd I) κ' (gcell d n) ∗ reached ER (gcell d n) 0) := by
  have hk : ∃ x : KI, kcell x = gcell d n := by
    rcases hn with rfl | hn
    · exact ⟨(⟨d, hd⟩, 0), rfl⟩
    · unfold isDma at hn
      refine ⟨(⟨d, hd⟩, ⟨n - 3, by omega⟩), ?_⟩
      have : num ⟨n - 3, by omega⟩ = n := by unfold num; simp only; rw [if_neg (by omega)]; omega
      unfold kcell; rw [this]
  obtain ⟨x, hx⟩ := hk
  have he : (bigSep Finset.univ (fun x : KI => iprop(cellInv ER (Rd I) (κ x) (kcell x) ∗ reached ER (kcell x) 0)) : sProp 𝕄)
      ⊢ iprop(cellInv ER (Rd I) (κ x) (kcell x) ∗ reached ER (kcell x) 0) := bigSep_elim (Finset.mem_univ x)
  unfold ctx
  iintro ⟨-, H⟩
  ihave H' := he $$ H
  iexists (κ x)
  rw [← hx]
  iexact H'

theorem ctx_lev (κ : KI → ℕ) : ctx I κ ⊢ (levAts (SiteBlocks.L 6) SiteBlocks.lv : sProp 𝕄) := by
  unfold ctx; iintro ⟨H, -⟩; iexact H

/-! ## What a device owes -/

/-- A payment: cell, level, units. -/
def payOf (p : ℕ × ℕ) : Pay nD τ sig := (gcell p.1 p.2, lvl p.2, if p.2 = 0 then 1 else N)

/-- Device c owes a list of payments. -/
def owesL (c : ℕ) (rem : List (ℕ × ℕ)) : sProp 𝕄 := iprop(∃ W : Waits sig ℕ, owes (dv c : Thread nD τ) (tallyL (rem.map payOf)) W)

theorem mayWait_above {c l : ℕ} (hl : l < 6) (s : SemLoc sig) {rem : List (ℕ × ℕ)} (h : ∀ p ∈ rem, l < lvl p.2) :
    (levAts (SiteBlocks.L 6) SiteBlocks.lv : sProp 𝕄) ⊢ MayWait (dv c : Thread nD τ) s l (tallyL (rem.map payOf)) :=
  SiteBlocks.mayWait_of hl (dv c) s _ fun g k hg => by
    obtain ⟨x, hx, rfl, rfl⟩ := tallyL_pos hg
    obtain ⟨p, hp, rfl⟩ := List.mem_map.mp hx
    exact ⟨SiteBlocks.mem_L _ _ (lvl_lt _), h p hp⟩

theorem ctx_mayWait (κ : KI → ℕ) {c l : ℕ} (hl : l < 6) (s : SemLoc sig) {rem : List (ℕ × ℕ)} (h : ∀ p ∈ rem, l < lvl p.2) :
    ctx I κ ⊢ (MayWait (dv c : Thread nD τ) s l (tallyL (rem.map payOf)) : sProp 𝕄) := by
  have h1 := mayWait_above (F := F) (c := c) hl s h
  unfold ctx
  iintro ⟨H, -⟩
  iapply h1
  iexact H

/-! ## The steps -/

/-- The weakest precondition of a program of device c. -/
abbrev wpc (c : ℕ) (p : Prog (TpuEff nD τ sig (Elt F) Λ₀ .tc) PUnit.{1}) (Q : PUnit.{1} → sProp 𝕄) : sProp 𝕄 :=
  wp frame (wpE (defs₀ (F := F)) Variants.none (dv c : Thread nD τ) none) Set.univ p Q

variable (κ : KI → ℕ) {c : ℕ} {rem : List (ℕ × ℕ)} {k : PUnit.{1} → Prog (TpuEff nD τ sig (Elt F) Λ₀ .tc) PUnit.{1}}

theorem step_sig {d i : ℕ} {R : PUnit.{1} → sProp 𝕄} (hd : d < 16) (hi : i < 5) :
    iprop(ctx I κ ∗ sepA I (.btok d i :: barPay d i) ∗ owesL c ((d, 0) :: rem))
      ⊢ iprop((owesL c rem -∗ wpc c (k ⟨⟩) R) -∗ wpc c (.op (.semSignal (dv d : Thread nD τ) barrier0 ((1 : ℕ) : ℤ)) k) R) := by
  have key := fun (κ' : ℕ) (W : Waits sig ℕ) => Rounds.wp_signal (defs := defs₀ (F := F)) (Q := R) (k := k) (Γ := ∅) Variants.none ER (Rd I) (dv c : Thread nD τ) none
    (dst := (dv d : Thread nD τ)) (sem := barrier0) (r := 0) (d := i) (k' := 1) (κ := κ') (W := W) (Es := Set.univ)
    (by have := duties_bar I d; unfold gcell at this; rw [sl_zero] at this; rw [this]; exact Finset.mem_range.mpr hi)
    (by have := amount_bar I d i; unfold gcell at this; rw [sl_zero] at this; exact this)
    1 (O₀ := tallyL (((d, 0) :: rem).map payOf)) (tallyL (rem.map payOf))
    (by rw [List.map_cons, tallyL, add_comm]; unfold payOf; unfold gcell; simp only [sl_zero]; rfl)
  have hpay := payload_bar I hd i
  have hcell := ctx_cell I κ hd (n := 0) (Or.inl rfl)
  unfold gcell at hpay hcell; rw [sl_zero] at hpay hcell
  rw [sepA_cons, den_btok]
  unfold owesL
  iintro ⟨#Hc, ⟨Ht, Hp⟩, ⟨%W, HO⟩⟩ Hk
  ihave H := hcell $$ Hc
  icases H with ⟨%κ', #HI, #Hr⟩
  iapply (key κ' W) $$ [Ht Hp HO]
  · isplitr; · iexact HI
    isplitl [HO]; · iexact HO
    isplitl [Ht]; · iexact Ht
    isplitl [Hp]; · rw [hpay]; iexact Hp
    iexact Hr
  iintro HO
  iapply Hk
  iexists W
  iexact HO

theorem step_bwait {R : PUnit.{1} → sProp 𝕄} (hc : c < 16) (h : ∀ p ∈ rem, 1 < lvl p.2) :
    iprop(ctx I κ ∗ sepA I [.cred c 0, .pos c 0] ∗ owesL c rem)
      ⊢ iprop(((sepA I (.dn c 0 :: (List.range 5).flatMap (barPay c)) ∗ owesL c rem) -∗ wpc c (k ⟨⟩) R) -∗ wpc c (.op (.semWait barrier0 ((5 : ℕ) : ℤ)) k) R) := by
  have key := fun (κ' : ℕ) (W : Waits sig ℕ) => Rounds.wp_wait_rest_token (defs := defs₀ (F := F)) (Q := R) (k := k) (Γ := ∅) Variants.none ER (Rd I) (dv c : Thread nD τ) none
    (w := .semWait barrier0 ((5 : ℕ) : ℤ)) (sm := .reg barrier0) (k' := 5) (κ := κ') (wpE_semWait_eq Variants.none (dv c : Thread nD τ) none Set.univ) (Set.mem_univ _)
    1 (O := tallyL (rem.map payOf)) (W := W) (R := 0) (m := 0) (T := ∅)
    (by have := expect_bar I c; unfold gcell at this; rw [sl_zero] at this; rw [this])
  have hrest := rest_bar I hc
  have hcell := ctx_cell I κ hc (n := 0) (Or.inl rfl)
  have hlev := ctx_mayWait I κ (c := c) (l := 1) (by decide) (.reg barrier0) h
  unfold gcell at hrest hcell; rw [sl_zero] at hrest hcell
  simp only [sepA_cons, bigSepL_nil]
  rw [den_cred0, den_pos I c sl_zero, den_dn I c sl_zero]
  unfold owesL
  iintro ⟨#Hc, ⟨Hcr, Hps, -⟩, ⟨%W, HO⟩⟩ Hk
  ihave H := hcell $$ Hc
  icases H with ⟨%κ', #HI, #Hr⟩
  iapply (key κ' W) $$ [Hcr Hps HO]
  · isplitr; · iexact HI
    isplitl [Hcr]; · iexact Hcr
    isplitl [HO]; · iexact HO
    isplitr; · iapply hlev; iexact Hc
    iexact Hps
  iintro ⟨HO, Hps, -, Hp⟩
  iapply Hk
  isplitl [Hps Hp]
  · isplitl [Hps]
    · iexists (0 + 1); isplitr; · ipureintro; exact duties_later _
      iexact Hps
    · ihave Hp' := (Entails.of_eq hrest) $$ Hp; iexact Hp'
  iexists (insert (.reg barrier0, 1) W)
  iexact HO

theorem step_wait {n : ℕ} {R : PUnit.{1} → sProp 𝕄} (hc : c < 16) (hn : isDma n) (hp : pay c n ≠ []) (h : ∀ p ∈ rem, lvl n < lvl p.2)
    {sp sp' : Space} {s s' : Shape} {e e' : EltTy} {sem : DmaSem sig} {src : Memref sig .tc sp' s' e'} {κ₁ : Kind} {dst : Memref sig κ₁ sp s e}
    {h1 : src.view.WordExact} {h2 : dst.view.WordExact} (hs : SemLoc.dma sem = sl n) (hN : dst.view.dmaCredit = N) :
    iprop(ctx I κ ∗ sepA I [.cred c n, .pos c n] ∗ owesL c rem)
      ⊢ iprop(((sepA I (.dn c n :: pay c n) ∗ owesL c rem) -∗ wpc c (k ⟨⟩) R) -∗ wpc c (.op (.waitDma2 sem src dst h1 h2) k) R) := by
  have hn0 : n ≠ 0 := by unfold isDma at hn; omega
  have key := fun (κ' : ℕ) (W : Waits sig ℕ) => Rounds.wp_wait_rest_token (defs := defs₀ (F := F)) (Q := R) (k := k) (Γ := ∅) Variants.none ER (Rd I) (dv c : Thread nD τ) none
    (w := .waitDma2 sem src dst h1 h2) (sm := .dma sem) (k' := dst.view.dmaCredit) (κ := κ')
    (wpE_waitDma2_eq Variants.none (dv c : Thread nD τ) none Set.univ) (Set.mem_univ _)
    (lvl n) (O := tallyL (rem.map payOf)) (W := W) (R := 0) (m := 0) (T := ∅)
    (by have := expect_dma I hc hn hp; unfold gcell at this; rw [← hs] at this; rw [this, hN, Nat.zero_add])
  have hrest := rest_dma I hc hn hp
  have hcell := ctx_cell I κ hc (n := n) (Or.inr hn)
  have hlev := ctx_mayWait I κ (c := c) (lvl_lt n) (.dma sem) h
  unfold gcell at hrest hcell; rw [← hs] at hrest hcell
  rw [hN] at key
  simp only [sepA_cons, bigSepL_nil]
  rw [den_cred I c hs.symm hn0, den_pos I c hs.symm, den_dn I c hs.symm]
  unfold owesL
  iintro ⟨#Hc, ⟨Hcr, Hps, -⟩, ⟨%W, HO⟩⟩ Hk
  ihave H := hcell $$ Hc
  icases H with ⟨%κ', #HI, #Hr⟩
  iapply (key κ' W) $$ [Hcr Hps HO]
  · isplitr; · iexact HI
    isplitl [Hcr]; · iexact Hcr
    isplitl [HO]; · iexact HO
    isplitr; · iapply hlev; iexact Hc
    iexact Hps
  iintro ⟨HO, Hps, -, Hp⟩
  iapply Hk
  isplitl [Hps Hp]
  · isplitl [Hps]
    · iexists (0 + 1); isplitr; · ipureintro; exact duties_later _
      iexact Hps
    · ihave Hp' := (Entails.of_eq hrest) $$ Hp; iexact Hp'
  iexists (insert (.dma sem, lvl n) W)
  iexact HO

end AllReduce
-- ==== Proof.Deal.lean ====
/-
  What the launch deals each device: the rights to pay, the positions on its cells, the units its waits spend; and what it takes back: the counters at zero.
-/
module

public import proofs.«01_k».proof.Proof.Rules

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay allPays credOf launchCred_tallyL cred_tallyL)

variable {F : FTy → Type} [FloatOps F]

local notation "𝕄" => MT nD τ sig ℕ (Elt F) ℕ UU ℕ

variable (I : Inputs F)

/-! ## Resources along a list -/

theorem seps_perm {α : Type} {l l' : List α} (h : l.Perm l') (Φ : α → sProp 𝕄) : bigSepL l Φ = bigSepL l' Φ := by
  induction h with
  | nil => rfl
  | cons a _ ih => rw [bigSepL_cons', bigSepL_cons', ih]
  | swap a b l =>
    simp only [bigSepL_cons']
    exact BI.Entails.antisymm (sep_left_comm (PROP := sProp 𝕄)).1 (sep_left_comm (PROP := sProp 𝕄)).1
  | trans _ _ h1 h2 => exact h1.trans h2

theorem seps_congr {α : Type} {l : List α} {Φ Ψ : α → sProp 𝕄} (h : ∀ a ∈ l, Φ a = Ψ a) : bigSepL l Φ = bigSepL l Ψ :=
  BI.Entails.antisymm (bigSepL_mono fun a ha => Entails.of_eq (h a ha)) (bigSepL_mono fun a ha => Entails.of_eq (h a ha).symm)

theorem seps_flatMap {α β : Type} (l : List α) (g : α → List β) (Φ : β → sProp 𝕄) : bigSepL (l.flatMap g) Φ = bigSepL l fun a => bigSepL (g a) Φ := by
  induction l with
  | nil => rfl
  | cons a l ih => rw [List.flatMap_cons, bigSepL_append, bigSepL_cons', ih]

theorem seps_fin {n : ℕ} (Φ : Fin n → sProp 𝕄) : bigSep Finset.univ Φ = bigSepL (List.finRange n) Φ :=
  bigSep_univ_eq_bigSepL (List.finRange n) (by ext i; simp) (List.nodup_finRange n) Φ

theorem num_ok (k : Fin 77) : num k = 0 ∨ isDma (num k) := by revert k; decide

/-! ## The rights to pay -/

/-- Cell, round and duty of a right to pay. -/
def tokOf : Atom → GSem nD τ sig × ℕ × ℕ
  | .tok d n => (gcell d n, 0, 0)
  | .btok d i => (gcell d 0, 0, i)
  | _ => (gcell 0 0, 0, 5)
/-- Whether an atom is a right to pay. -/
def isTok : Atom → Bool
  | .tok _ _ | .btok _ _ => true
  | _ => false

theorem den_isTok {a : Atom} (h : isTok a = true) : den I a = dutyTok ER (tokOf a).1 (tokOf a).2.1 (tokOf a).2.2 := by
  cases a <;> first | rfl | cases h

/-- The rights of all devices. -/
def allToks : List Atom := (List.finRange nD).flatMap fun c => startTok c.val

/-- A number that tells two of them apart. -/
def tokCode (x : GSem nD τ sig × ℕ × ℕ) : ℕ := x.1.1.1.val + 16 * ((match x.1.2 with | .reg _ => 0 | .dma s => s.val) + 80 * x.2.2)

/-- No number of the list is met twice, nor is a bit of m. -/
def fresh : List ℕ → ℕ → Bool
  | [], _ => true
  | a :: l, m => match a + 1 with
    | 0 => false
    | b + 1 => !m.testBit b && match m ||| 1 <<< b with
      | 0 => false
      | k + 1 => fresh l (k + 1)

theorem fresh_nodup : ∀ (l : List ℕ) (m : ℕ), fresh l m = true → l.Nodup ∧ ∀ a ∈ l, m.testBit a = false := by
  intro l
  induction l with
  | nil => intro m _; exact ⟨List.nodup_nil, fun a h => absurd h List.not_mem_nil⟩
  | cons a l ih =>
    intro m h
    have h' : (!m.testBit a && match m ||| 1 <<< a with
      | 0 => false
      | k + 1 => fresh l (k + 1)) = true := h
    rw [Bool.and_eq_true] at h'
    obtain ⟨h1, h2⟩ := h'
    have h3 : fresh l (m ||| 1 <<< a) = true := by
      revert h2
      generalize m ||| 1 <<< a = k
      cases k with
      | zero => intro h; cases h
      | succ k => exact fun h => h
    obtain ⟨hn, hb⟩ := ih _ h3
    have hbit : ∀ b ∈ l, m.testBit b = false ∧ a ≠ b := by
      intro b hb'
      have h4 := hb b hb'
      rw [Nat.testBit_or, Bool.or_eq_false_iff] at h4
      refine ⟨h4.1, fun hab => ?_⟩
      subst hab
      have h5 := h4.2
      rw [Nat.testBit_shiftLeft] at h5
      simp at h5
    refine ⟨List.nodup_cons.mpr ⟨fun hm => (hbit a hm).2 rfl, hn⟩, fun b hb' => ?_⟩
    rcases List.mem_cons.mp hb' with rfl | hb'
    · simpa using h1
    · exact (hbit b hb').1

theorem allToks_fresh : fresh (allToks.map fun a => tokCode (tokOf a)) 0 = true := by decide +kernel

theorem allToks_nodup : (allToks.map tokOf).Nodup := List.Nodup.of_map tokCode (by rw [List.map_map]; exact (fresh_nodup _ _ allToks_fresh).1)

theorem allToks_tok : (allToks.all isTok) = true := by decide +kernel

/-- The rights as the launch makes them. -/
def tokSet : Finset (GSem nD τ sig × ℕ × ℕ) := (allToks.map tokOf).toFinset

theorem toks_deal : (bigSep tokSet (fun x => dutyTok ER x.1 x.2.1 x.2.2) : sProp 𝕄) = bigSep Finset.univ fun c : Dev nD => sepA I (startTok c.val) := by
  unfold tokSet
  rw [bigSep_eq_bigSepL _ allToks_nodup, bigSepL_map, seps_fin, ← seps_flatMap]
  exact seps_congr fun a ha => (den_isTok I (List.all_eq_true.mp allToks_tok a ha)).symm

/-! ## The positions -/

theorem startPos_eq : ∀ c < 16, startPos c = (List.finRange 77).map fun k => if num k ≠ 0 ∧ pay c (num k) = [] then .dn c (num k) else .pos c (num k) := by decide +kernel
theorem endPos_eq : ∀ c < 16, endPos c = (List.finRange 77).map fun k => .dn c (num k) := by decide +kernel

theorem pos_deal (c : Dev nD) : (bigSep Finset.univ (fun k : Fin 77 => atPos ER (kcell (c, k)) 0 ∅ 0) : sProp 𝕄) ⊢ sepA I (startPos c.val) := by
  rw [startPos_eq c.val c.isLt, seps_fin]
  show _ ⊢ bigSepL _ _
  rw [bigSepL_map]
  refine bigSepL_mono fun k _ => ?_
  by_cases h : num k ≠ 0 ∧ pay c.val (num k) = []
  · rw [if_pos h]
    have hn : isDma (num k) := (num_ok k).resolve_left h.1
    show (atPos ER (gcell c.val (num k)) 0 ∅ 0 : sProp 𝕄) ⊢ iprop(∃ R, ⌜∀ r, R ≤ r → duties (gcell c.val (num k)) r = ∅⌝ ∗ atPos ER (gcell c.val (num k)) R ∅ 0)
    have hd : ∀ r, 0 ≤ r → duties (gcell c.val (num k)) r = ∅ := by
      intro r _
      unfold gcell
      rw [sl_dma hn]
      unfold duties
      by_cases hr : r = 0
      · rw [if_pos hr]; exact if_pos (by rw [dv_val]; exact h.2)
      · exact if_neg hr
    iintro H
    iexists 0
    isplitr; · ipureintro; exact hd
    iexact H
  · rw [if_neg h]; exact .rfl

/-! ## The counters -/

/-- The kernel's own semaphores: all DMA semaphores but those of the copies in and out. -/
def osem : Fin 76 → SemLoc sig := fun k => .dma ⟨k.val + 4, Nat.add_lt_add_right k.isLt 4⟩

theorem ownSemFacts : Pipeline.OwnSemFacts cfg0.spec osem := by decide

theorem barrier_counter (c : Dev nD) : (unscopedSems0 c : sProp 𝕄) = semVal (kcell (c, 0)) 0 := by
  unfold unscopedSems0
  rw [bigSep_eq_bigSepL_of_eq [SemLoc.reg barrier0] (by decide) (by decide), bigSepL_singleton]
  show _ = semVal (gcell c.val 0) 0
  unfold gcell; rw [dv_val, sl_zero]

theorem counters (c : Dev nD) : iprop(unscopedSems0 c ∗ Pipeline.ownSems0 (Ix := ℕ) (Name := ℕ) (U := UU) (Lvl := ℕ) (Val := Elt F) (τ := τ) osem c)
    = (bigSep Finset.univ (fun k : Fin 77 => semVal (kcell (c, k)) 0) : sProp 𝕄) := by
  rw [seps_fin, List.finRange_succ, bigSepL_cons', barrier_counter]
  unfold Pipeline.ownSems0
  rw [seps_fin, bigSepL_map]
  refine congrArg (fun P => iprop(semVal (kcell (c, 0)) 0 ∗ P)) (seps_congr fun k _ => ?_)
  have h : num k.succ = k.val + 4 := by unfold num; simp only [Fin.val_succ]; rw [if_neg (by omega)]
  show _ = (semVal (gcell c.val (num k.succ)) 0 : sProp 𝕄)
  unfold gcell; rw [dv_val, h, sl_dma (by unfold isDma; omega)]; rfl

variable (κ : KI → ℕ)

/-- A cell after its last wait gives its counter back. -/
theorem close_cell {d n : ℕ} (hd : d < 16) (hn : n = 0 ∨ isDma n) : iprop(ctx I κ ∗ den I (.dn d n)) ⊢ (|={Set.univ}=> semVal (gcell d n) 0 : sProp 𝕄) := by
  have hcell := ctx_cell I κ hd hn
  rw [den_dn I d rfl]
  iintro ⟨Hc, ⟨%R, %hR, Hat⟩⟩
  ihave H := hcell $$ Hc
  icases H with ⟨%κ', #HI, -⟩
  iapply (Rounds.cell_close ER (Rd I) (Set.mem_univ κ') (fun h => h) hR)
  isplitr; · iexact HI
  iexact Hat

theorem with_known {α : Type} [DecidableEq α] {S : Finset α} {R : sProp 𝕄} [BI.Persistent R] {Φ Ψ : α → sProp 𝕄} (h : ∀ a ∈ S, iprop(R ∗ Φ a) ⊢ Ψ a) :
    iprop(R ∗ bigSep S Φ) ⊢ bigSep S Ψ :=
  (sep_mono_left (BI.bigSep_of_persistent S R)).trans (by rw [← bigSep_sep']; exact bigSep_mono h)

theorem close_cells (c : Dev nD) : iprop(ctx I κ ∗ sepA I (endPos c.val)) ⊢ (|={Set.univ}=> bigSep Finset.univ (fun k : Fin 77 => semVal (kcell (c, k)) 0) : sProp 𝕄) := by
  rw [endPos_eq c.val c.isLt]
  show iprop(ctx I κ ∗ bigSepL _ _) ⊢ _
  rw [bigSepL_map, ← seps_fin]
  exact (with_known fun k _ => close_cell I κ c.isLt (num_ok k)).trans (bigSep_fupd _ _)

/-! ## The units the waits spend -/

/-- Everything all devices pay. -/
def allDues : List (ℕ × ℕ) := (List.finRange nD).flatMap fun d => dues d.val

/-- What a device owes at the start. -/
def dueL (c : Dev nD) : List (Pay nD τ sig) := (dues c.val).map payOf

theorem dues_device : (allDues.all fun p => decide (p.1 < 16)) = true := by decide +kernel

/-- What is paid to device c's cells: five units on the barrier cell, one landing on every receive cell in use. -/
theorem dues_to : ∀ c < 16, (allDues.filter fun p => p.1 = c).Perm (List.replicate 5 (c, 0) ++ ((used c).filter fun n => !isSend n).map fun n => (c, n)) := by decide +kernel

theorem credOf_eq (c : Dev nD) : credOf dueL c = (allDues.filter fun p => p.1 = c.val).map payOf := by
  have h : allPays dueL = allDues.map payOf := by unfold allPays allDues dueL; rw [List.map_flatMap]
  unfold credOf
  rw [h, List.filter_map]
  refine congrArg (List.map payOf) (List.filter_congr fun p hp => ?_)
  have hp' : p.1 < 16 := of_decide_eq_true (List.all_eq_true.mp dues_device p hp)
  show decide (((dv p.1 : Dev nD).tc : Thread nD τ) = c.tc) = decide (p.1 = c.val)
  refine decide_eq_decide.mpr ⟨fun h => ?_, fun h => by rw [h, dv_val]⟩
  have := congrArg (fun t : Thread nD τ => t.1.val) h
  exact (val_dv hp').symm.trans this

theorem cred_five (g : GSem nD τ sig) (i : ℕ) : (bigSepL (List.replicate 5 PUnit.unit.{1}) (fun _ => cred (tallyAt g i 1)) : sProp 𝕄) = cred (tallyAt g i 5) := by
  have h : ∀ a b : ℕ, iprop(cred (tallyAt g i a) ∗ cred (tallyAt g i b)) = (cred (tallyAt g i (a + b)) : sProp 𝕄) := fun a b => by
    rw [← tallyAt_add]; exact BI.Entails.antisymm (cred_add _ _).2 (cred_add _ _).1
  simp only [List.replicate_succ, List.replicate_zero, bigSepL_cons_cons, bigSepL_singleton]
  show iprop(cred (tallyAt g i 1) ∗ cred (tallyAt g i 1) ∗ cred (tallyAt g i 1) ∗ cred (tallyAt g i 1) ∗ cred (tallyAt g i 1)) = _
  rw [h, h, h, h]

theorem cred_deal (c : Dev nD) : (Pipeline.launchCred (fun d => tallyL (dueL d)) c : sProp 𝕄) = sepA I (startCred c.val) := by
  rw [launchCred_tallyL dueL (fun d x hx => by
    obtain ⟨p, -, rfl⟩ := List.mem_map.mp hx; rfl) c, credOf_eq, cred_tallyL, bigSepL_map, seps_perm (dues_to c.val c.isLt), bigSepL_append, bigSepL_map]
  unfold startCred
  rw [sepA_cons]
  refine congrArg₂ (fun P Q => iprop(P ∗ Q)) ?_ ?_
  · rw [show List.replicate 5 (c.val, 0) = (List.replicate 5 PUnit.unit.{1}).map (fun _ => (c.val, 0)) from rfl, bigSepL_map]
    exact (cred_five (gcell c.val 0) 1).trans rfl
  · show _ = bigSepL _ _
    rw [bigSepL_map]
    refine seps_congr fun n hn => ?_
    have h0 : n ≠ 0 := by
      have h1 := List.mem_of_mem_filter (List.mem_of_mem_filter hn)
      unfold cells at h1
      obtain ⟨k, -, rfl⟩ := List.mem_map.mp h1
      omega
    rw [den_cred I c.val rfl h0]
    unfold payOf Pay.tally
    simp only [if_neg h0]

end AllReduce
-- ==== Proof.Contents.lean ====
/-
  What the copies and the loads read and write, chunk by chunk.
-/
module

public import proofs.«01_k».proof.Proof.Views

@[expose] public section

noncomputable section

namespace AllReduce

open Cert.KernelIdeal Cert.KernelIdeal.Gen
open Idealize.ShloMosaic
open Idealize.ShloMosaic.TcCoe

variable {F : FTy → Type} [FloatOps F] (I : Inputs F)

theorem exists_of_mem {sp : Space} {s : Shape} {e : EltTy} {v : View sig .tc sp s e} {i : v.ref.ty.Idx} (hi : i ∈ v.set) : ∃ j, v.emb j = i := by
  unfold View.set at hi
  obtain ⟨j, -, h⟩ := Finset.mem_map.mp hi
  exact ⟨j, h⟩

/-- A copy of contents f onto the same view of another buffer leaves f there. -/
theorem write_read_self {sp : Space} {s : Shape} {e : EltTy} (v : View sig .tc sp s e) (fd fs : v.ref.ty.Contents (Elt F)) (i : v.ref.ty.Idx) (hi : i ∈ v.set) :
    v.write (Elt F) fd (v.read (Elt F) fs) Finset.univ i = fs i := by
  obtain ⟨j, rfl⟩ := exists_of_mem hi
  rw [View.write_emb_of_mem _ _ (Finset.mem_univ j), View.read_apply, cast_cast, cast_eq]

/-- A copy of the final result's chunk (b, h) leaves the final result there. -/
theorem o_lands (b h : ℕ) (fd fs : (cc0_stg3_0 : Ref sig .tc).ty.Contents (Elt F)) (i : (cc0_stg3_0 : Ref sig .tc).ty.Idx) (hi : i ∈ (oV b h).view.set) :
    (oV b h).view.write (Elt F) fd ((oV b h).view.read (Elt F) fs) Finset.univ i = fs i := write_read_self (oV b h).view fd fs i hi

/-- Where an index of a chunk of the landing buffer lies. -/
theorem sV_emb0 (s h : ℕ) (j : S32x1024.Idx) : (((sV s h).view.emb j : S256x1024.Idx) 0).val = 64 * (s % 4) + 32 * (h % 2) + (j 0).val := by
  show 64 * (s % 4) + 32 * (h % 2) + 1 * (j 0).val = _; omega
theorem sV_emb1 (s h : ℕ) (j : S32x1024.Idx) : (((sV s h).view.emb j : S256x1024.Idx) 1).val = (j 1).val := by
  show 0 + 1 * (j 1).val = _; omega
theorem oV_emb0 (b h : ℕ) (j : S32x1024.Idx) : (((oV b h).view.emb j : S1024x1024.Idx) 0).val = 64 * (b % 16) + 32 * (h % 2) + (j 0).val := by
  show 64 * (b % 16) + 32 * (h % 2) + 1 * (j 0).val = _; omega
theorem oV_emb1 (b h : ℕ) (j : S32x1024.Idx) : (((oV b h).view.emb j : S1024x1024.Idx) 1).val = (j 1).val := by
  show 0 + 1 * (j 1).val = _; omega

theorem inChunkS_emb (s h : ℕ) (j : S32x1024.Idx) : inChunkS ((sV s h).view.emb j) = j := by
  have h0 := sV_emb0 s h j
  have h1 := sV_emb1 s h j
  have hj : (j 0).val < 32 := (j 0).isLt
  funext a
  fin_cases a
  · apply Fin.ext; show (((sV s h).view.emb j : S256x1024.Idx) 0).val % 32 = (j 0).val; omega
  · apply Fin.ext; exact h1
theorem inChunk_emb (b h : ℕ) (j : S32x1024.Idx) : inChunk ((oV b h).view.emb j) = j := by
  have h0 := oV_emb0 b h j
  have h1 := oV_emb1 b h j
  have hj : (j 0).val < 32 := (j 0).isLt
  funext a
  fin_cases a
  · apply Fin.ext; show (((oV b h).view.emb j : S1024x1024.Idx) 0).val % 32 = (j 0).val; omega
  · apply Fin.ext; exact h1

/-- The landing buffer at an index of chunk (s, h). -/
theorem RS_emb (d : ℕ) {s h : ℕ} (hs : s < 4) (hh : h < 2) (j : S32x1024.Idx) : RS I d ((sV s h).view.emb j) = xchunk I (4 * pl d + s) d h j := by
  have h0 := sV_emb0 s h j
  have hj : (j 0).val < 32 := (j 0).isLt
  unfold RS
  rw [inChunkS_emb, show (((sV s h).view.emb j : S256x1024.Idx) 0).val / 64 = s by omega, show (((sV s h).view.emb j : S256x1024.Idx) 0).val / 32 % 2 = h by omega]
/-- The result at an index of chunk (b, h). -/
theorem OUT_emb {b h : ℕ} (hb : b < 16) (hh : h < 2) (j : S32x1024.Idx) : OUT I ((oV b h).view.emb j) = outChunk I b h j := by
  have h0 := oV_emb0 b h j
  have hj : (j 0).val < 32 := (j 0).isLt
  unfold OUT
  rw [inChunk_emb, show (((oV b h).view.emb j : S1024x1024.Idx) 0).val / 64 = b by omega, show (((oV b h).view.emb j : S1024x1024.Idx) 0).val / 32 % 2 = h by omega]

/-- What device c's copy of chunk (d, h) of its first input leaves in the landing buffer of a device d of its plane. -/
theorem rs_lands {c d h : ℕ} (hh : h < 2) (hp : pl c = pl d) (fd : (cc0_scratch0 : Ref sig .tc).ty.Contents (Elt F)) (i : (cc0_scratch0 : Ref sig .tc).ty.Idx)
    (hi : i ∈ (sV (zc c) h).view.set) :
    (sV (zc c) h).view.write (Elt F) fd ((xV d h).view.read (Elt F) (I.X (dv c))) Finset.univ i = RS I d i := by
  obtain ⟨j, rfl⟩ := exists_of_mem hi
  rw [View.write_emb_of_mem _ _ (Finset.mem_univ j), RS_emb I d (show c % 4 < 4 by omega) hh]
  have hc : 4 * pl d + zc c = c := by rw [← hp]; show 4 * (c / 4) + c % 4 = c; omega
  rw [hc]; rfl

/-- What is loaded of the landing buffer of device c. -/
theorem rs_load {c s h : ℕ} (hs : s < 4) (hh : h < 2) : (sB.access (srows s h)).read (Elt F) (RS I c) = xchunk I (4 * pl c + s) c h :=
  funext fun j => RS_emb I c hs hh j

/-- What the store of chunk (b, h) leaves there. -/
theorem out_stored {b h : ℕ} (hb : b < 16) (hh : h < 2) (fd : (cc0_stg3_0 : Ref sig .tc).ty.Contents (Elt F)) (i : (cc0_stg3_0 : Ref sig .tc).ty.Idx)
    (hi : i ∈ (oV b h).view.set) : (oB.access (rows b h)).write (Elt F) fd (outChunk I b h) Finset.univ i = OUT I i := by
  obtain ⟨j, rfl⟩ := exists_of_mem hi
  exact (View.write_emb_of_mem (v := (oV b h).view) fd (outChunk I b h) (Finset.mem_univ j)).trans (OUT_emb I hb hh j).symm

end AllReduce
-- ==== Proof.Steps.lean ====
/-
  The remaining steps in the program logic: the copies, the halving of shares, the computation of half a block.
-/
module

public import proofs.«01_k».proof.Proof.Rules
public import proofs.«01_k».proof.Proof.Contents

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay)

variable {F : FTy → Type} [FloatOps F]

local notation "𝕄" => MT nD τ sig ℕ (Elt F) ℕ UU ℕ

variable (I : Inputs F) (κ : KI → ℕ) {c : ℕ} {rem : List (ℕ × ℕ)} {k : PUnit.{1} → Prog (TpuEff nD τ sig (Elt F) Λ₀ .tc) PUnit.{1}}

theorem payOf_dma {d n : ℕ} (hn : isDma n) : payOf (d, n) = (gcell d n, lvl n, N) := by
  unfold payOf; rw [if_neg (show ¬ n = 0 by unfold isDma at hn; omega)]

theorem den_o (d b h q : ℕ) : den I (.o d b h q) = oPts d b h (shr q) (OUT I) := rfl

theorem den_x (d b h : ℕ) : den I (.x d b h) = (((xV b h).view.loc (dv d : Thread nD τ) ↦[(xV b h).view.set]{fullShare} (I.X (dv d))) : sProp 𝕄) := rfl

theorem den_o1 (d b h : ℕ) : den I (.o d b h 1) = oPts d b h fullShare (OUT I) := by
  show oPts d b h (shr 1) (OUT I) = _; rw [shr_one]

theorem sepA_one (a : Atom) : sepA I [a] = den I a := bigSepL_singleton _ _

theorem sepA_two (a b : Atom) (l : List Atom) : sepA I (a :: b :: l) = iprop(den I a ∗ sepA I (b :: l)) := sepA_cons I a (b :: l)

theorem den_oraw (d b h : ℕ) : den I (.oraw d b h) = (iprop(∃ f, oPts d b h fullShare f) : sProp 𝕄) := rfl

theorem den_rraw (d s h : ℕ) : den I (.rraw d s h) = (iprop(∃ f, sPts d s h f) : sProp 𝕄) := rfl

/-! ## Halving shares -/

theorem o_halves {q : ℕ} (hq : 1 ≤ q) (d b h : ℕ) : den I (.o d b h q) = iprop(den I (.o d b h (2 * q)) ∗ den I (.o d b h (2 * q + 1))) := by
  show oPts d b h (shr q) (OUT I) = iprop(oPts d b h (shr (2 * q)) (OUT I) ∗ oPts d b h (shr (2 * q + 1)) (OUT I))
  rw [shr_even hq, shr_odd hq]
  have := pointsTo_share (Ix := ℕ) (Name := ℕ) (U := UU) (Lvl := ℕ) (ℓ := (oV b h).view.loc (dv d : Thread nD τ)) (I := (oV b h).view.set) (f := OUT I)
    (PosShare.mem_left_op_right (shr q))
  exact BI.Entails.antisymm this.1 this.2

/-! ## Copies -/

theorem step_osend {d ss rs b h q : ℕ} {R : PUnit.{1} → sProp 𝕄} (hc : c < 16) (hf : Fits c (.osend d ss rs b h q))
    {hsc : (oV b h).view.ref.isScScratch = false} {h1 h2 : (oV b h).view.WordExact} {h3 : DmaTarget.Typed .vmem (sl rs) (.remote (dv d : Thread nD τ) (oV b h) (sl ss) hsc)} :
    iprop(ctx I κ ∗ sepA I [.tok c ss, .tok d rs, .o c b h q, .oraw d b h] ∗ owesL c ((d, rs) :: rem))
      ⊢ iprop(((sepA I [.cred c ss] ∗ owesL c rem) -∗ wpc c (k ⟨⟩) R)
          -∗ wpc c (.op (.enqueueDma (oV b h) (.remote (dv d : Thread nD τ) (oV b h) (sl ss) hsc) (sl rs) h1 h2 h3) k) R) := by
  obtain ⟨hd, hb, hh, hss, hrs, hl, hp1, hp2⟩ := hf
  have key := fun (κ₁ κ₂ : ℕ) (fd : (cc0_stg3_0 : Ref sig .tc).ty.Contents (Elt F)) (W : Waits sig ℕ) =>
    Rounds.wp_send_pointsTo (defs := defs₀ (F := F)) (Q := R) (k := k) (Γ := ∅) Variants.none ER (Rd I) (dv c : Thread nD τ) none
    (c' := (dv d : Thread nD τ)) (src := oV b h) (dst := oV b h) (hsc := hsc) (sS := sl ss) (sem := sl rs) (hsrc := h1) (hdst := h2) (hsem := h3)
    (q := shr q) (fs := OUT I) (fd := fd) (r₁ := 0) (r₂ := 0) (d₁ := 0) (d₂ := 0) (κ₁ := κ₁) (κ₂ := κ₂)
    (by rw [duties_dma I hc hss (by rw [hp1]; exact List.cons_ne_nil _ _)]; exact Finset.mem_singleton_self _)
    (by rw [duties_dma I hd hrs (by rw [hp2]; exact List.cons_ne_nil _ _)]; exact Finset.mem_singleton_self _)
    (lvl rs) (lvl ss) N (by rw [sl_dma hrs]) (amount_dma I hss 0) (amount_dma I hrs 0) (O₀ := tallyL (((d, rs) :: rem).map payOf)) (tallyL (rem.map payOf))
    (by rw [List.map_cons, tallyL, add_comm, payOf_dma hrs]) (W := W) (Es := Set.univ)
    (by rw [payload_dma I hc hss, hp1]; exact Entails.refl _)
    (by
      rw [payload_dma I hd hrs, hp2, sepA_one, den_o1]
      exact Entails.of_eq (pointsTo_congr fun i hi => o_lands b h fd (OUT I) i hi))
  have hc1 := ctx_cell I κ hc (n := ss) (Or.inr hss)
  have hc2 := ctx_cell I κ hd (n := rs) (Or.inr hrs)
  simp only [sepA_cons, bigSepL_nil, bigSepL_singleton]
  rw [den_cred I c rfl (show ss ≠ 0 by unfold isDma at hss; omega), den_tok I c rfl, den_tok I d rfl, den_oraw, den_o]
  unfold owesL
  iintro ⟨#Hc, ⟨Ht1, Ht2, Ho, Hr⟩, ⟨%W, HO⟩⟩ Hk
  ihave H1 := hc1 $$ Hc
  icases H1 with ⟨%κ₁, #HI1, #Hr1⟩
  ihave H2 := hc2 $$ Hc
  icases H2 with ⟨%κ₂, #HI2, #Hr2⟩
  icases Hr with ⟨%fd, Hr⟩
  iapply (key κ₁ κ₂ fd W) $$ [Ht1 Ht2 Ho Hr HO]
  · isplitr; · iexact HI1
    isplitr; · iexact HI2
    isplitl [Ho]; · iexact Ho
    isplitl [Hr]; · iexact Hr
    isplitl [HO]; · iexact HO
    isplitl [Ht1]; · iexact Ht1
    isplitr; · iexact Hr1
    isplitl [Ht2]; · iexact Ht2
    iexact Hr2
  iintro ⟨Hcr, HO⟩
  iapply Hk
  isplitl [Hcr]; · iexact Hcr
  iexists W
  iexact HO

theorem step_rsend {d ss rs h : ℕ} {R : PUnit.{1} → sProp 𝕄} (hc : c < 16) (hf : Fits c (.rsend d ss rs h))
    {hsc : (sV (zc c) h).view.ref.isScScratch = false} {h1 : (xV d h).view.WordExact} {h2 : (sV (zc c) h).view.WordExact}
    {h3 : DmaTarget.Typed .vmem (sl rs) (.remote (dv d : Thread nD τ) (sV (zc c) h) (sl ss) hsc)} :
    iprop(ctx I κ ∗ sepA I [.tok c ss, .tok d rs, .x c d h, .rraw d (zc c) h] ∗ owesL c ((d, rs) :: rem))
      ⊢ iprop(((sepA I [.cred c ss] ∗ owesL c rem) -∗ wpc c (k ⟨⟩) R)
          -∗ wpc c (.op (.enqueueDma (xV d h) (.remote (dv d : Thread nD τ) (sV (zc c) h) (sl ss) hsc) (sl rs) h1 h2 h3) k) R) := by
  obtain ⟨hd, hh, hss, hrs, hl, hpl, hp1, hp2⟩ := hf
  have key := fun (κ₁ κ₂ : ℕ) (fd : (cc0_scratch0 : Ref sig .tc).ty.Contents (Elt F)) (W : Waits sig ℕ) =>
    Rounds.wp_send_pointsTo (defs := defs₀ (F := F)) (Q := R) (k := k) (Γ := ∅) Variants.none ER (Rd I) (dv c : Thread nD τ) none
    (c' := (dv d : Thread nD τ)) (src := xV d h) (dst := sV (zc c) h) (hsc := hsc) (sS := sl ss) (sem := sl rs) (hsrc := h1) (hdst := h2) (hsem := h3)
    (q := fullShare) (fs := I.X (dv c)) (fd := fd) (r₁ := 0) (r₂ := 0) (d₁ := 0) (d₂ := 0) (κ₁ := κ₁) (κ₂ := κ₂)
    (by rw [duties_dma I hc hss (by rw [hp1]; exact List.cons_ne_nil _ _)]; exact Finset.mem_singleton_self _)
    (by rw [duties_dma I hd hrs (by rw [hp2]; exact List.cons_ne_nil _ _)]; exact Finset.mem_singleton_self _)
    (lvl rs) (lvl ss) N (by rw [sl_dma hrs]) (amount_dma I hss 0) (amount_dma I hrs 0) (O₀ := tallyL (((d, rs) :: rem).map payOf)) (tallyL (rem.map payOf))
    (by rw [List.map_cons, tallyL, add_comm, payOf_dma hrs]) (W := W) (Es := Set.univ)
    (by rw [payload_dma I hc hss, hp1]; exact Entails.refl _)
    (by
      rw [payload_dma I hd hrs, hp2, sepA_one]
      exact Entails.of_eq (pointsTo_congr fun i hi => rs_lands I hh hpl fd i hi))
  have hc1 := ctx_cell I κ hc (n := ss) (Or.inr hss)
  have hc2 := ctx_cell I κ hd (n := rs) (Or.inr hrs)
  simp only [sepA_cons, bigSepL_nil, bigSepL_singleton]
  rw [den_cred I c rfl (show ss ≠ 0 by unfold isDma at hss; omega), den_tok I c rfl, den_tok I d rfl, den_rraw, den_x]
  unfold owesL
  iintro ⟨#Hc, ⟨Ht1, Ht2, Ho, Hr⟩, ⟨%W, HO⟩⟩ Hk
  ihave H1 := hc1 $$ Hc
  icases H1 with ⟨%κ₁, #HI1, #Hr1⟩
  ihave H2 := hc2 $$ Hc
  icases H2 with ⟨%κ₂, #HI2, #Hr2⟩
  icases Hr with ⟨%fd, Hr⟩
  iapply (key κ₁ κ₂ fd W) $$ [Ht1 Ht2 Ho Hr HO]
  · isplitr; · iexact HI1
    isplitr; · iexact HI2
    isplitl [Ho]; · iexact Ho
    isplitl [Hr]; · iexact Hr
    isplitl [HO]; · iexact HO
    isplitl [Ht1]; · iexact Ht1
    isplitr; · iexact Hr1
    isplitl [Ht2]; · iexact Ht2
    iexact Hr2
  iintro ⟨Hcr, HO⟩
  iapply Hk
  isplitl [Hcr]; · iexact Hcr
  iexists W
  iexact HO

/-! ## Loads and the store -/

theorem ld_x {b h : ℕ} {R : PUnit.{1} → sProp 𝕄} {hl : (xQ).view.LoadsAt (rows b h).toLoadRect} {kx : (S32x1024.Idx → Elt F .f32) → Prog (TpuEff nD τ sig (Elt F) Λ₀ .tc) PUnit.{1}} :
    den I (.x c b h) ⊢ iprop((den I (.x c b h) -∗ wpc c (kx (xchunk I c b h)) R) -∗ wpc c (.op (.load xQ (rows b h).toLoadRect hl) kx) R) :=
  wp_load_rect (defs := defs₀ (F := F)) (Q := R) (k := kx) (Γ := ∅) Variants.none (dv c : Thread nD τ) none Set.univ (m := xQ) (r := rows b h) (hl := hl)
    (S := (xV b h).view.set) (q := fullShare) (f := I.X (dv c)) (Finset.Subset.refl _)

theorem ld_y {b h : ℕ} {R : PUnit.{1} → sProp 𝕄} {hl : (yB).view.LoadsAt (rows b h).toLoadRect} {kx : (S32x1024.Idx → Elt F .f32) → Prog (TpuEff nD τ sig (Elt F) Λ₀ .tc) PUnit.{1}} :
    den I (.resid c) ⊢ iprop((den I (.resid c) -∗ wpc c (kx (ychunk I c b h)) R) -∗ wpc c (.op (.load yB (rows b h).toLoadRect hl) kx) R) :=
  wp_load_rect (defs := defs₀ (F := F)) (Q := R) (k := kx) (Γ := ∅) Variants.none (dv c : Thread nD τ) none Set.univ (m := yB) (r := rows b h) (hl := hl)
    (S := yB.view.set) (q := fullShare) (f := I.Y (dv c)) (View.set_slice_subset _ _)

theorem ld_g {inb : ∀ a, (![0] : Fin 1 → ℕ) a + S1024.size a ≤ S1024.size a} {R : PUnit.{1} → sProp 𝕄} {hl : (gB).view.LoadsAt (Rect.unit (s := S1024) ![0] S1024.size inb).toLoadRect}
    {kx : (S1024.Idx → Elt F .f32) → Prog (TpuEff nD τ sig (Elt F) Λ₀ .tc) PUnit.{1}} :
    den I (.gamma c) ⊢ iprop((den I (.gamma c) -∗ wpc c (kx (I.G (dv c))) R) -∗ wpc c (.op (.load gB (Rect.unit (s := S1024) ![0] S1024.size inb).toLoadRect hl) kx) R) := by
  have h := wp_load_rect (defs := defs₀ (F := F)) (Q := R) (k := kx) (Γ := ∅) Variants.none (dv c : Thread nD τ) none Set.univ (m := gB) (r := Rect.unit (s := S1024) ![0] S1024.size inb) (hl := hl)
    (S := gB.view.set) (q := fullShare) (f := I.G (dv c)) (View.set_slice_subset _ _)
  have e : (gB.access (Rect.unit (s := S1024) ![0] S1024.size inb)).read (Elt F) (I.G (dv c)) = I.G (dv c) :=
    Memref.readAt_unit_zero (Elt F) cc0_stg2_0 (by funext a; fin_cases a; rfl) inb (I.G (dv c))
  rw [e] at h
  exact h

theorem ld_s {s h : ℕ} (hs : s < 4) (hh : h < 2) {R : PUnit.{1} → sProp 𝕄} {hl : (sB).view.LoadsAt (srows s h).toLoadRect}
    {kx : (S32x1024.Idx → Elt F .f32) → Prog (TpuEff nD τ sig (Elt F) Λ₀ .tc) PUnit.{1}} :
    den I (.r c s h) ⊢ iprop((den I (.r c s h) -∗ wpc c (kx (xchunk I (4 * pl c + s) c h)) R) -∗ wpc c (.op (.load sB (srows s h).toLoadRect hl) kx) R) := by
  have h' := wp_load_rect (defs := defs₀ (F := F)) (Q := R) (k := kx) (Γ := ∅) Variants.none (dv c : Thread nD τ) none Set.univ (m := sB) (r := srows s h) (hl := hl)
    (S := (sV s h).view.set) (q := fullShare) (f := RS I c) (Finset.Subset.refl _)
  rw [rs_load I hs hh] at h'
  exact h'

theorem ld_o {b h : ℕ} {R : PUnit.{1} → sProp 𝕄} {hl : (oB).view.LoadsAt (rows b h).toLoadRect} {p : Prog (TpuEff nD τ sig (Elt F) Λ₀ .tc) PUnit.{1}} :
    den I (.oraw c b h) ⊢ iprop((den I (.oraw c b h) -∗ wpc c p R) -∗ wpc c (.op (.load oB (rows b h).toLoadRect hl) fun _ => p) R) := by
  have h' := fun f => wp_load_rect (defs := defs₀ (F := F)) (Q := R) (k := fun _ => p) (Γ := ∅) Variants.none (dv c : Thread nD τ) none Set.univ (m := oB) (r := rows b h) (hl := hl)
    (S := (oV b h).view.set) (q := fullShare) (f := f) (Finset.Subset.refl _)
  rw [den_oraw]
  iintro ⟨%f, H⟩ Hk
  iapply (h' f) $$ H
  iintro H
  iapply Hk
  iexists f
  iexact H

theorem st_o {b h : ℕ} (hb : b < 16) (hh : h < 2) {R : PUnit.{1} → sProp 𝕄} {w : S32x1024.Idx → Elt F .f32} (hw : w = outChunk I b h)
    {hx : (oB.access (rows b h)).Stores Finset.univ} {hm : (Finset.univ : Finset (rows b h).shape.Idx) = Finset.univ ∨ ∀ a, (rows b h).stride a = 1} :
    den I (.oraw c b h) ⊢ iprop((den I (.o c b h 1) -∗ wpc c (k ⟨⟩) R) -∗ wpc c (.op (.store oB (rows b h) w Finset.univ hx hm) k) R) := by
  have h' := fun f => wp_store (defs := defs₀ (F := F)) (Q := R) (k := k) (Γ := ∅) Variants.none (dv c : Thread nD τ) none Set.univ (m := oB) (r := rows b h) (w := w) (hx := hx) (hm := hm)
    (S := (oV b h).view.set) (f := f) (Finset.Subset.refl _)
  have e := fun f : (cc0_stg3_0 : Ref sig .tc).ty.Contents (Elt F) => Entails.of_eq (pointsTo_congr (Ix := ℕ) (Name := ℕ) (U := UU) (Lvl := ℕ)
    (ℓ := (oV b h).view.loc (dv c : Thread nD τ)) (q := fullShare) fun i hi => out_stored I hb hh f i hi)
  rw [den_oraw, den_o1]; subst hw
  iintro ⟨%f, H⟩ Hk
  iapply (h' f) $$ H
  iintro H
  iapply Hk
  iapply (e f)
  iexact H

/-! ## The computation of half a block -/

theorem own_mod : ∀ c < 16, ∀ h < 2, ∀ i ∈ [1, 2, 3], isDma (rsCell c i h) ∧ pay c (rsCell c i h) = [.r c ((c % 4 + i) % 4) h] ∧ lvl (rsCell c i h) = 2 := by
  decide +kernel

/-- A wait for a peer's piece and the load of it. -/
theorem step_piece {h : ℕ} {R : PUnit.{1} → sProp 𝕄} {i : ℕ} (hi : i ∈ [1, 2, 3]) (hc : c < 16) (hh : h < 2) (hlev : ∀ p ∈ rem, 2 < lvl p.2) {s : DmaSem sig} (hs : SemLoc.dma s = sl (rsCell c i h))
    {src dst : Memref sig .tc .vmem S32x1024 .f32} (hN : dst.view.dmaCredit = N) {h1 : src.view.WordExact} {h2 : dst.view.WordExact}
    {hl : (sB).view.LoadsAt (srows ((c % 4 + i) % 4) h).toLoadRect} {kx : (S32x1024.Idx → Elt F .f32) → Prog (TpuEff nD τ sig (Elt F) Λ₀ .tc) PUnit.{1}} :
    iprop(ctx I κ ∗ (den I (.cred c (rsCell c i h)) ∗ den I (.pos c (rsCell c i h))) ∗ owesL c rem)
      ⊢ iprop((((den I (.dn c (rsCell c i h)) ∗ den I (.r c ((c % 4 + i) % 4) h)) ∗ owesL c rem) -∗ wpc c (kx (xchunk I (zp c i) c h)) R)
          -∗ wpc c (.op (.waitDma2 s src dst h1 h2) fun _ => .op (.load sB (srows ((c % 4 + i) % 4) h).toLoadRect hl) kx) R) := by
  obtain ⟨hn, hp, hl2⟩ := own_mod c hc h hh i hi
  have hw := step_wait I κ (k := fun _ => .op (.load sB (srows ((c % 4 + i) % 4) h).toLoadRect hl) kx) (R := R) hc hn (by rw [hp]; exact List.cons_ne_nil _ _) (by rw [hl2]; exact hlev)
    (src := src) (dst := dst) (h1 := h1) (h2 := h2) hs hN
  have hld := ld_s I (c := c) (s := (c % 4 + i) % 4) (Nat.mod_lt _ (by decide)) hh (R := R) (hl := hl) (kx := kx)
  rw [hp] at hw
  simp only [sepA_two, sepA_one] at hw
  iintro ⟨#Hc, ⟨Hcr, Hps⟩, HO⟩ Hk
  iapply hw $$ [Hcr Hps HO]
  · isplitr; · iexact Hc
    isplitl [Hcr Hps]
    · isplitl [Hcr]; · iexact Hcr
      iexact Hps
    iexact HO
  iintro ⟨⟨Hd, Hr⟩, HO⟩
  iapply hld $$ Hr
  iintro Hr
  iapply Hk
  isplitl [Hd Hr]
  · isplitl [Hd]; · iexact Hd
    iexact Hr
  iexact HO

theorem step_comp {h : ℕ} {R : PUnit.{1} → sProp 𝕄} (hc : c < 16) (hh : h < 2) (hlev : ∀ p ∈ rem, 2 < lvl p.2) {s1 s2 s3 : DmaSem sig}
    (hs1 : SemLoc.dma s1 = sl (rsCell c 1 h)) (hs2 : SemLoc.dma s2 = sl (rsCell c 2 h)) (hs3 : SemLoc.dma s3 = sl (rsCell c 3 h))
    {a1 b1 a2 b2 a3 b3 : Memref sig .tc .vmem S32x1024 .f32} (hN1 : b1.view.dmaCredit = N) (hN2 : b2.view.dmaCredit = N) (hN3 : b3.view.dmaCredit = N)
    {x1 : a1.view.WordExact} {y1 : b1.view.WordExact} {x2 : a2.view.WordExact} {y2 : b2.view.WordExact} {x3 : a3.view.WordExact} {y3 : b3.view.WordExact}
    {l1 : (xQ).view.LoadsAt (rows c h).toLoadRect} {l2 : (yB).view.LoadsAt (rows c h).toLoadRect} {l3 : (sB).view.LoadsAt (srows ((c % 4 + 1) % 4) h).toLoadRect}
    {l4 : (sB).view.LoadsAt (srows ((c % 4 + 2) % 4) h).toLoadRect} {l5 : (sB).view.LoadsAt (srows ((c % 4 + 3) % 4) h).toLoadRect}
    {inb : ∀ a, (![0] : Fin 1 → ℕ) a + S1024.size a ≤ S1024.size a} {l6 : (gB).view.LoadsAt (Rect.unit (s := S1024) ![0] S1024.size inb).toLoadRect}
    {l7 : (oB).view.LoadsAt (rows c h).toLoadRect}
    {w : (S32x1024.Idx → Elt F .f32) → (S32x1024.Idx → Elt F .f32) → (S32x1024.Idx → Elt F .f32) → (S32x1024.Idx → Elt F .f32) → (S32x1024.Idx → Elt F .f32) → (S1024.Idx → Elt F .f32)
      → (S32x1024.Idx → Elt F .f32)}
    (hw : ∀ v1 v2 v3 v4 v5 v6, w v1 v2 v3 v4 v5 v6 = k0_pay4 (k0_pay3 (k0_pay2 (k0_pay1 v1 v2) v3) v4) v5 v6)
    {hx : (oB.access (rows c h)).Stores Finset.univ} {hm : (Finset.univ : Finset (rows c h).shape.Idx) = Finset.univ ∨ ∀ a, (rows c h).stride a = 1} :
    iprop(ctx I κ ∗ sepA I (need c (.comp h)) ∗ owesL c rem)
      ⊢ iprop(((sepA I (give c (.comp h)) ∗ owesL c rem) -∗ wpc c (k ⟨⟩) R)
          -∗ wpc c (.op (.load xQ (rows c h).toLoadRect l1) fun v1 => .op (.load yB (rows c h).toLoadRect l2) fun v2 =>
            .op (.waitDma2 s1 a1 b1 x1 y1) fun _ => .op (.load sB (srows ((c % 4 + 1) % 4) h).toLoadRect l3) fun v3 =>
            .op (.waitDma2 s2 a2 b2 x2 y2) fun _ => .op (.load sB (srows ((c % 4 + 2) % 4) h).toLoadRect l4) fun v4 =>
            .op (.waitDma2 s3 a3 b3 x3 y3) fun _ => .op (.load sB (srows ((c % 4 + 3) % 4) h).toLoadRect l5) fun v5 =>
            .op (.load gB (Rect.unit (s := S1024) ![0] S1024.size inb).toLoadRect l6) fun v6 => .op (.load oB (rows c h).toLoadRect l7) fun _ =>
            .op (.store oB (rows c h) (w v1 v2 v3 v4 v5 v6) Finset.univ hx hm) k) R) := by
  simp only [need, give, sepA_two, sepA_one]
  iintro ⟨#Hc, ⟨Hx, Hy, Hg, Ho, Hc1, Hp1, Hc2, Hp2, Hc3, Hp3⟩, HO⟩ Hk
  iapply (ld_x I) $$ Hx
  iintro Hx
  iapply (ld_y I) $$ Hy
  iintro Hy
  iapply (step_piece I κ (i := 1) (by decide) hc hh hlev hs1 hN1) $$ [Hc1 Hp1 HO]
  · isplitr; · iexact Hc
    isplitl [Hc1 Hp1]
    · isplitl [Hc1]; · iexact Hc1
      iexact Hp1
    iexact HO
  iintro ⟨⟨Hc1, Hp1⟩, HO⟩
  iapply (step_piece I κ (i := 2) (by decide) hc hh hlev hs2 hN2) $$ [Hc2 Hp2 HO]
  · isplitr; · iexact Hc
    isplitl [Hc2 Hp2]
    · isplitl [Hc2]; · iexact Hc2
      iexact Hp2
    iexact HO
  iintro ⟨⟨Hc2, Hp2⟩, HO⟩
  iapply (step_piece I κ (i := 3) (by decide) hc hh hlev hs3 hN3) $$ [Hc3 Hp3 HO]
  · isplitr; · iexact Hc
    isplitl [Hc3 Hp3]
    · isplitl [Hc3]; · iexact Hc3
      iexact Hp3
    iexact HO
  iintro ⟨⟨Hc3, Hp3⟩, HO⟩
  iapply (ld_g I) $$ Hg
  iintro Hg
  iapply (ld_o I) $$ Ho
  iintro Ho
  iapply (st_o I hc hh (hw _ _ _ _ _ _)) $$ Ho
  iintro Ho
  iapply Hk
  isplitr [HO]
  · iframe
  iexact HO
end AllReduce
-- ==== Proof.Split.lean ====
/-
  The buffers of a device, held whole and held chunk by chunk.
-/
module

public import proofs.«01_k».proof.Proof.Steps

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F)

/-! ## A buffer and a list of pieces -/

section Pieces
variable {α : Type} [DecidableEq α] {ℓ : Loc nD τ sig} (L : List α) (hL : L.Nodup) (K : α → Finset (Idx ℓ))
  (hd : ∀ a ∈ L, ∀ b ∈ L, a ≠ b → Disjoint (K a) (K b)) (hc : ∀ i, ∃ a ∈ L, i ∈ K a)

include hc in
theorem pieces_all : L.toFinset.biUnion K = Finset.univ :=
  Finset.eq_univ_iff_forall.mpr fun i => by
    obtain ⟨a, ha, hi⟩ := hc i
    exact Finset.mem_biUnion.mpr ⟨a, List.mem_toFinset.mpr ha, hi⟩

include hL hd hc in
/-- A buffer held whole is held piece by piece, where the pieces are disjoint and cover it. -/
theorem pts_pieces (f : Buf (Elt F) ℓ) : (ℓ ↦{fullShare} f : sProp 𝕄) = bigSepL L fun a => ℓ ↦[K a]{fullShare} f := by
  rw [← bigSep_eq_bigSepL L hL, ← pointsTo_biUnion L.toFinset K (fun a ha b hb => hd a (List.mem_toFinset.mp ha) b (List.mem_toFinset.mp hb)), pieces_all L K hc]

include hL hd hc in
/-- Pieces with contents of their own make up the buffer with some contents. -/
theorem pts_pieces_join (f₀ : Buf (Elt F) ℓ) : (bigSepL L fun a => iprop(∃ f, ℓ ↦[K a]{fullShare} f) : sProp 𝕄) ⊢ iprop(∃ f, ℓ ↦{fullShare} f) := by
  have : Nonempty (Buf (Elt F) ℓ) := ⟨f₀⟩
  have h1 := bigSep_exists_pi L.toFinset (fun (a : α) (f : Buf (Elt F) ℓ) => (ℓ ↦[K a]{fullShare} f : sProp 𝕄))
  have h2 := fun fs => pointsTo_biUnion_join (Ix := ℕ) (Name := ℕ) (U := UU) (Lvl := ℕ) (q := fullShare) L.toFinset K fs f₀
    (fun a ha b hb => hd a (List.mem_toFinset.mp ha) b (List.mem_toFinset.mp hb))
  rw [pieces_all L K hc] at h2
  rw [← bigSep_eq_bigSepL L hL]
  iintro H
  ihave H1 := h1 $$ H
  icases H1 with ⟨%fs, H1⟩
  ihave H2 := (h2 fs) $$ H1
  icases H2 with ⟨%g, -, H2⟩
  iexists g
  iexact H2

end Pieces

/-! ## The pieces of the four buffers -/

theorem chunks_nodup : chunks.Nodup := by decide
theorem mem_chunks {p : ℕ × ℕ} (h : p ∈ chunks) : p.1 < 16 ∧ p.2 < 2 := by revert p; decide
theorem chunk_mem {b h : ℕ} (hb : b < 16) (hh : h < 2) : (b, h) ∈ chunks := by revert hh; revert h; revert b; decide
theorem mem_schunks {p : ℕ × ℕ} (h : p ∈ chunks.take 8) : p.1 < 4 ∧ p.2 < 2 := by revert p; decide
theorem schunk_mem {b h : ℕ} (hb : b < 4) (hh : h < 2) : (b, h) ∈ chunks.take 8 := by revert hh; revert h; revert b; decide

theorem oV_disjoint : ∀ p ∈ chunks, ∀ p' ∈ chunks, p ≠ p' → Disjoint (oV p.1 p.2).view.set (oV p'.1 p'.2).view.set := fun p hp p' hp' hne =>
  Finset.disjoint_left.mpr fun i hi hi' => hne (by
    obtain ⟨j, rfl⟩ := exists_of_mem hi
    obtain ⟨j', hj⟩ := exists_of_mem hi'
    have h0 := oV_emb0 p.1 p.2 j
    have h1 := oV_emb0 p'.1 p'.2 j'
    have e : (((oV p'.1 p'.2).view.emb j' : S1024x1024.Idx) 0).val = (((oV p.1 p.2).view.emb j : S1024x1024.Idx) 0).val := congrArg (fun i : S1024x1024.Idx => (i 0).val) hj
    have hj0 : (j 0).val < 32 := (j 0).isLt
    have hj1 : (j' 0).val < 32 := (j' 0).isLt
    have := mem_chunks hp
    have := mem_chunks hp'
    exact Prod.ext (by omega) (by omega))

theorem oV_cover (i : S1024x1024.Idx) : ∃ p ∈ chunks, i ∈ (oV p.1 p.2).view.set := by
  have hi : (i 0).val < 1024 := (i 0).isLt
  refine ⟨((i 0).val / 64, (i 0).val / 32 % 2), chunk_mem (by omega) (by omega), ?_⟩
  have h0 := oV_emb0 ((i 0).val / 64) ((i 0).val / 32 % 2) (inChunk i)
  have h1 := oV_emb1 ((i 0).val / 64) ((i 0).val / 32 % 2) (inChunk i)
  have h2 : (inChunk i 0).val = (i 0).val % 32 := rfl
  have h3 : (inChunk i 1).val = (i 1).val := rfl
  have e : (oV ((i 0).val / 64) ((i 0).val / 32 % 2)).view.emb (inChunk i) = i := by
    funext a
    fin_cases a
    · exact Fin.ext (by show (((oV ((i 0).val / 64) ((i 0).val / 32 % 2)).view.emb (inChunk i) : S1024x1024.Idx) 0).val = (i 0).val; omega)
    · exact Fin.ext (by show (((oV ((i 0).val / 64) ((i 0).val / 32 % 2)).view.emb (inChunk i) : S1024x1024.Idx) 1).val = (i 1).val; omega)
  have := View.emb_mem_set (oV ((i 0).val / 64) ((i 0).val / 32 % 2)).view (inChunk i)
  rw [e] at this
  exact this

theorem sV_disjoint : ∀ p ∈ chunks.take 8, ∀ p' ∈ chunks.take 8, p ≠ p' → Disjoint (sV p.1 p.2).view.set (sV p'.1 p'.2).view.set := fun p hp p' hp' hne =>
  Finset.disjoint_left.mpr fun i hi hi' => hne (by
    obtain ⟨j, rfl⟩ := exists_of_mem hi
    obtain ⟨j', hj⟩ := exists_of_mem hi'
    have h0 := sV_emb0 p.1 p.2 j
    have h1 := sV_emb0 p'.1 p'.2 j'
    have e : (((sV p'.1 p'.2).view.emb j' : S256x1024.Idx) 0).val = (((sV p.1 p.2).view.emb j : S256x1024.Idx) 0).val := congrArg (fun i : S256x1024.Idx => (i 0).val) hj
    have hj0 : (j 0).val < 32 := (j 0).isLt
    have hj1 : (j' 0).val < 32 := (j' 0).isLt
    have := mem_schunks hp
    have := mem_schunks hp'
    exact Prod.ext (by omega) (by omega))

theorem sV_cover (i : S256x1024.Idx) : ∃ p ∈ chunks.take 8, i ∈ (sV p.1 p.2).view.set := by
  have hi : (i 0).val < 256 := (i 0).isLt
  refine ⟨((i 0).val / 64, (i 0).val / 32 % 2), schunk_mem (by omega) (by omega), ?_⟩
  have h0 := sV_emb0 ((i 0).val / 64) ((i 0).val / 32 % 2) (inChunkS i)
  have h1 := sV_emb1 ((i 0).val / 64) ((i 0).val / 32 % 2) (inChunkS i)
  have h2 : (inChunkS i 0).val = (i 0).val % 32 := rfl
  have h3 : (inChunkS i 1).val = (i 1).val := rfl
  have e : (sV ((i 0).val / 64) ((i 0).val / 32 % 2)).view.emb (inChunkS i) = i := by
    funext a
    fin_cases a
    · exact Fin.ext (by show (((sV ((i 0).val / 64) ((i 0).val / 32 % 2)).view.emb (inChunkS i) : S256x1024.Idx) 0).val = (i 0).val; omega)
    · exact Fin.ext (by show (((sV ((i 0).val / 64) ((i 0).val / 32 % 2)).view.emb (inChunkS i) : S256x1024.Idx) 1).val = (i 1).val; omega)
  have := View.emb_mem_set (sV ((i 0).val / 64) ((i 0).val / 32 % 2)).view (inChunkS i)
  rw [e] at this
  exact this

/-- The first input without its leading axis has as many places as with it: every place is one of its. -/
theorem xQ_surj : Function.Surjective (xQ).view.emb := by
  have hcard : Fintype.card S1024x1024.Idx = Fintype.card S1x1024x1024.Idx := by rw [Shape.card_idx, Shape.card_idx]; decide
  exact ((Fintype.bijective_iff_injective_and_card (xQ.view.emb : S1024x1024.Idx → S1x1024x1024.Idx)).2 ⟨xQ.view.emb.injective, hcard⟩).2

/-- A chunk of the first input is where the same chunk of the result is, leading axis aside. -/
theorem xV_emb (b h : ℕ) (j : S32x1024.Idx) : (xV b h).view.emb j = xQ.view.emb ((oV b h).view.emb j) := rfl

theorem xV_disjoint : ∀ p ∈ chunks, ∀ p' ∈ chunks, p ≠ p' → Disjoint (xV p.1 p.2).view.set (xV p'.1 p'.2).view.set := fun p hp p' hp' hne =>
  Finset.disjoint_left.mpr fun i hi hi' => by
    obtain ⟨j, rfl⟩ := exists_of_mem hi
    obtain ⟨j', hj⟩ := exists_of_mem hi'
    rw [xV_emb, xV_emb] at hj
    have e := xQ.view.emb.injective hj
    have h1 := View.emb_mem_set (oV p'.1 p'.2).view j'
    rw [e] at h1
    exact Finset.disjoint_left.mp (oV_disjoint p hp p' hp' hne) (View.emb_mem_set (oV p.1 p.2).view j) h1

theorem xV_cover (i : S1x1024x1024.Idx) : ∃ p ∈ chunks, i ∈ (xV p.1 p.2).view.set := by
  obtain ⟨k, rfl⟩ := xQ_surj i
  obtain ⟨p, hp, hk⟩ := oV_cover k
  obtain ⟨j, rfl⟩ := exists_of_mem hk
  exact ⟨p, hp, View.emb_mem_set (xV p.1 p.2).view j⟩

/-! ## Whole buffers as atoms -/

theorem sepA_map {α : Type} (l : List α) (g : α → Atom) : sepA I (l.map g) = bigSepL l fun i => den I (g i) := bigSepL_map g l _

theorem x_atoms (d : ℕ) : (((dv d : Thread nD τ).loc cc0_stg0_0 ↦{fullShare} I.X (dv d)) : sProp 𝕄) = sepA I (chunks.map fun p => .x d p.1 p.2) := by
  rw [sepA_map]
  exact pts_pieces (ℓ := (dv d : Thread nD τ).loc cc0_stg0_0) chunks chunks_nodup (fun p => (xV p.1 p.2).view.set) xV_disjoint xV_cover (I.X (dv d))

theorem o_atoms (d : ℕ) : (((dv d : Thread nD τ).loc cc0_stg3_0 ↦{fullShare} OUT I) : sProp 𝕄) = sepA I (chunks.map fun p => .o d p.1 p.2 1) := by
  rw [sepA_map]
  refine (pts_pieces (ℓ := (dv d : Thread nD τ).loc cc0_stg3_0) chunks chunks_nodup (fun p => (oV p.1 p.2).view.set) oV_disjoint oV_cover (OUT I)).trans ?_
  exact congrArg (bigSepL chunks) (funext fun p => (den_o1 I d p.1 p.2).symm)

theorem oraw_atoms (d : ℕ) (f : (cc0_stg3_0 : Ref sig .tc).ty.Contents (Elt F)) :
    (((dv d : Thread nD τ).loc cc0_stg3_0 ↦{fullShare} f) : sProp 𝕄) ⊢ sepA I (chunks.map fun p => .oraw d p.1 p.2) := by
  rw [sepA_map]
  refine (Entails.of_eq (pts_pieces (ℓ := (dv d : Thread nD τ).loc cc0_stg3_0) chunks chunks_nodup (fun p => (oV p.1 p.2).view.set) oV_disjoint oV_cover f)).trans ?_
  exact bigSepL_mono fun p _ => by rw [den_oraw]; iintro H; iexists f; iexact H

theorem rraw_atoms (d : ℕ) (f : (cc0_scratch0 : Ref sig .tc).ty.Contents (Elt F)) :
    (((dv d : Thread nD τ).loc cc0_scratch0 ↦{fullShare} f) : sProp 𝕄) ⊢ sepA I ((chunks.take 8).map fun p => .rraw d p.1 p.2) := by
  rw [sepA_map]
  refine (Entails.of_eq (pts_pieces (ℓ := (dv d : Thread nD τ).loc cc0_scratch0) (chunks.take 8) (by decide) (fun p => (sV p.1 p.2).view.set) sV_disjoint sV_cover f)).trans ?_
  exact bigSepL_mono fun p _ => by rw [den_rraw]; iintro H; iexists f; iexact H

/-- The landing buffer at the end: every chunk but the device's own holds what landed there. -/
theorem landing_atoms (d z : ℕ) : sepA I ((chunks.take 8).map fun p => if p.1 = z then .rraw d p.1 p.2 else .r d p.1 p.2)
    ⊢ (iprop(∃ f, (dv d : Thread nD τ).loc cc0_scratch0 ↦{fullShare} f) : sProp 𝕄) := by
  rw [sepA_map]
  refine BI.Entails.trans ?_ (pts_pieces_join (ℓ := (dv d : Thread nD τ).loc cc0_scratch0) (chunks.take 8) (by decide) (fun p => (sV p.1 p.2).view.set) sV_disjoint sV_cover (RS I d))
  refine bigSepL_mono fun p _ => ?_
  by_cases h : p.1 = z
  · rw [if_pos h]; exact .rfl
  · rw [if_neg h]
    show (sPts d p.1 p.2 (RS I d) : sProp 𝕄) ⊢ _
    iintro H; iexists (RS I d); iexact H

theorem resid_atom (d : ℕ) : (((dv d : Thread nD τ).loc cc0_stg1_0 ↦{fullShare} I.Y (dv d)) : sProp 𝕄) = den I (.resid d) := by
  show _ = (yB.view.loc (dv d : Thread nD τ) ↦[yB.view.set]{fullShare} (I.Y (dv d)) : sProp 𝕄)
  simp only [Memref.view_whole, View.set_whole]
theorem gamma_atom (d : ℕ) : (((dv d : Thread nD τ).loc cc0_stg2_0 ↦{fullShare} I.G (dv d)) : sProp 𝕄) = den I (.gamma d) := by
  show _ = (gB.view.loc (dv d : Thread nD τ) ↦[gB.view.set]{fullShare} (I.G (dv d)) : sProp 𝕄)
  simp only [Memref.view_whole, View.set_whole]

/-! ## All buffers of a device -/

/-- What a device's five buffers are at the start, as atoms. -/
theorem start_bufs (d : ℕ) (f : (cc0_stg3_0 : Ref sig .tc).ty.Contents (Elt F)) (g : (cc0_scratch0 : Ref sig .tc).ty.Contents (Elt F)) :
    iprop(((dv d : Thread nD τ).loc cc0_stg0_0 ↦{fullShare} I.X (dv d)) ∗ ((dv d : Thread nD τ).loc cc0_stg1_0 ↦{fullShare} I.Y (dv d))
        ∗ ((dv d : Thread nD τ).loc cc0_stg2_0 ↦{fullShare} I.G (dv d)) ∗ ((dv d : Thread nD τ).loc cc0_stg3_0 ↦{fullShare} f)
        ∗ ((dv d : Thread nD τ).loc cc0_scratch0 ↦{fullShare} g))
      ⊢ (sepA I (startBufs d) : sProp 𝕄) := by
  have ho := oraw_atoms I d f
  have hr := rraw_atoms I d g
  rw [x_atoms, resid_atom, gamma_atom]
  unfold startBufs
  simp only [List.cons_append, sepA_cons, sepA_append]
  iintro ⟨Hx, Hy, Hg, Ho, Hs⟩
  isplitl [Hy]; · iexact Hy
  isplitl [Hg]; · iexact Hg
  isplitl [Hx Ho]
  · isplitl [Hx]; · iexact Hx
    iapply ho; iexact Ho
  iapply hr; iexact Hs

/-- What the atoms of the buffers are at the end: the inputs as they were, the result, the landing buffer. -/
theorem end_bufs (d : ℕ) : sepA I (endBufs d)
    ⊢ (iprop(((dv d : Thread nD τ).loc cc0_stg0_0 ↦{fullShare} I.X (dv d)) ∗ ((dv d : Thread nD τ).loc cc0_stg1_0 ↦{fullShare} I.Y (dv d))
        ∗ ((dv d : Thread nD τ).loc cc0_stg2_0 ↦{fullShare} I.G (dv d)) ∗ ((dv d : Thread nD τ).loc cc0_stg3_0 ↦{fullShare} OUT I)
        ∗ ∃ g, (dv d : Thread nD τ).loc cc0_scratch0 ↦{fullShare} g) : sProp 𝕄) := by
  have hr := landing_atoms I d (zc d)
  rw [x_atoms, resid_atom, gamma_atom, o_atoms]
  unfold endBufs
  simp only [List.cons_append, sepA_cons, sepA_append]
  iintro ⟨Hy, Hg, ⟨Hx, Ho⟩, Hs⟩
  isplitl [Hx]; · iexact Hx
  isplitl [Hy]; · iexact Hy
  isplitl [Hg]; · iexact Hg
  isplitl [Ho]; · iexact Ho
  iapply hr; iexact Hs

end AllReduce
-- ==== Proof.Real.lean ====
/-
  When a program carries out a list of steps of the protocol, and that such a program runs.
-/
module

public import proofs.«01_k».proof.Proof.Steps

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay)

variable {F : FTy → Type} [FloatOps F]

local notation "𝕄" => MT nD τ sig ℕ (Elt F) ℕ UU ℕ

/-- A program of a device, over the float semantics F. -/
abbrev Pr (F : FTy → Type) [FloatOps F] := Prog (TpuEff nD τ sig (Elt F) Λ₀ .tc) PUnit.{1}

/-- 32 rows of a buffer of 1024 rows, of a buffer of 256 rows. -/
abbrev rA (o : Fin 2 → ℕ) (inb : ∀ a, o a + S32x1024.size a ≤ S1024x1024.size a) : Rect S1024x1024 := Rect.unit o S32x1024.size inb
@[inherit_doc rA] abbrev rS (o : Fin 2 → ℕ) (inb : ∀ a, o a + S32x1024.size a ≤ S256x1024.size a) : Rect S256x1024 := Rect.unit o S32x1024.size inb

/-- A program of device c carries out a list of steps. Devices, semaphores and offsets are those of the steps; halving and joining shares takes no instruction. -/
inductive Real (c : Dev nD) : Pr F → List Ins → Prop
  | done : Real c (.ret ⟨⟩) []
  | dev {k is} (hk : Real c (k c) is) : Real c (.op .deviceId k) is
  | sig {w : Dev nD} {s : Sem sig} {n : ℤ} {d i k is} (hw : w = dv d) (hs : s = barrier0) (hn : n = 1) (hk : Real c (k ⟨⟩) is) :
      Real c (.op (.semSignal (w : Thread nD τ) s n) k) (.sig d i :: is)
  | bwait {s : Sem sig} {n : ℤ} {k is} (hs : s = barrier0) (hn : n = 5) (hk : Real c (k ⟨⟩) is) : Real c (.op (.semWait s n) k) (.bwait :: is)
  | wait {n : ℕ} {sem : DmaSem sig} {src dst : Memref sig .tc .vmem S32x1024 .f32} {h1 : src.view.WordExact} {h2 : dst.view.WordExact} {k is}
      (hs : SemLoc.dma sem = sl n) (hN : dst.view.dmaCredit = N) (hk : Real c (k ⟨⟩) is) : Real c (.op (.waitDma2 sem src dst h1 h2) k) (.wait n :: is)
  | osend {d ss rs b h q : ℕ} {w : Dev nD} {o : Fin 2 → ℕ} {inb inb' : ∀ a, o a + S32x1024.size a ≤ S1024x1024.size a} {sS sR : SemLoc sig}
      {hsc : (oB.slice (rA o inb) (fun _ => rfl) : Memref sig .tc .vmem S32x1024 .f32).view.ref.isScScratch = false}
      {h1 : (oB.slice (rA o inb') (fun _ => rfl) : Memref sig .tc .vmem S32x1024 .f32).view.WordExact}
      {h2 : (oB.slice (rA o inb) (fun _ => rfl) : Memref sig .tc .vmem S32x1024 .f32).view.WordExact}
      {h3 : DmaTarget.Typed .vmem sR (.remote (w : Thread nD τ) (oB.slice (rA o inb) (fun _ => rfl) : Memref sig .tc .vmem S32x1024 .f32) sS hsc)} {k is}
      (hw : w = dv d) (ho : o = ![64 * (b % 16) + 32 * (h % 2), 0]) (hS : sS = sl ss) (hR : sR = sl rs) (hk : Real c (k ⟨⟩) is) :
      Real c (.op (.enqueueDma (oB.slice (rA o inb') (fun _ => rfl) : Memref sig .tc .vmem S32x1024 .f32)
        (.remote (w : Thread nD τ) (oB.slice (rA o inb) (fun _ => rfl) : Memref sig .tc .vmem S32x1024 .f32) sS hsc) sR h1 h2 h3) k) (.osend d ss rs b h q :: is)
  | rsend {d ss rs h : ℕ} {w : Dev nD} {o o' : Fin 2 → ℕ} {inb' : ∀ a, o' a + S32x1024.size a ≤ S256x1024.size a} {inb : ∀ a, o a + S32x1024.size a ≤ S1024x1024.size a} {sS sR : SemLoc sig}
      {hsc : (sB.slice (rS o' inb') (fun _ => rfl) : Memref sig .tc .vmem S32x1024 .f32).view.ref.isScScratch = false}
      {h1 : (xQ.slice (rA o inb) (fun _ => rfl) : Memref sig .tc .vmem S32x1024 .f32).view.WordExact}
      {h2 : (sB.slice (rS o' inb') (fun _ => rfl) : Memref sig .tc .vmem S32x1024 .f32).view.WordExact}
      {h3 : DmaTarget.Typed .vmem sR (.remote (w : Thread nD τ) (sB.slice (rS o' inb') (fun _ => rfl) : Memref sig .tc .vmem S32x1024 .f32) sS hsc)} {k is}
      (hw : w = dv d) (ho : o = ![64 * (d % 16) + 32 * (h % 2), 0]) (ho' : o' = ![64 * (zc c % 4) + 32 * (h % 2), 0]) (hS : sS = sl ss) (hR : sR = sl rs) (hk : Real c (k ⟨⟩) is) :
      Real c (.op (.enqueueDma (xQ.slice (rA o inb) (fun _ => rfl) : Memref sig .tc .vmem S32x1024 .f32)
        (.remote (w : Thread nD τ) (sB.slice (rS o' inb') (fun _ => rfl) : Memref sig .tc .vmem S32x1024 .f32) sS hsc) sR h1 h2 h3) k) (.rsend d ss rs h :: is)
  | comp {h : ℕ} {s1 s2 s3 : DmaSem sig} {a1 b1 a2 b2 a3 b3 : Memref sig .tc .vmem S32x1024 .f32} {o o1 o2 o3 : Fin 2 → ℕ}
      {inb i2 i7 i8 : ∀ a, o a + S32x1024.size a ≤ S1024x1024.size a} {i3 : ∀ a, o1 a + S32x1024.size a ≤ S256x1024.size a}
      {i4 : ∀ a, o2 a + S32x1024.size a ≤ S256x1024.size a} {i5 : ∀ a, o3 a + S32x1024.size a ≤ S256x1024.size a} {i6 : ∀ a, (![0] : Fin 1 → ℕ) a + S1024.size a ≤ S1024.size a}
      {x1 : a1.view.WordExact} {y1 : b1.view.WordExact} {x2 : a2.view.WordExact} {y2 : b2.view.WordExact} {x3 : a3.view.WordExact} {y3 : b3.view.WordExact}
      {l1 : (xQ).view.LoadsAt (rA o inb).toLoadRect} {l2 : (yB).view.LoadsAt (rA o i2).toLoadRect}
      {l3 : (sB).view.LoadsAt (rS o1 i3).toLoadRect} {l4 : (sB).view.LoadsAt (rS o2 i4).toLoadRect}
      {l5 : (sB).view.LoadsAt (rS o3 i5).toLoadRect} {l6 : (gB).view.LoadsAt (Rect.unit (s := S1024) ![0] S1024.size i6).toLoadRect}
      {l7 : (oB).view.LoadsAt (rA o i7).toLoadRect}
      {w : (S32x1024.Idx → Elt F .f32) → (S32x1024.Idx → Elt F .f32) → (S32x1024.Idx → Elt F .f32) → (S32x1024.Idx → Elt F .f32) → (S32x1024.Idx → Elt F .f32) → (S1024.Idx → Elt F .f32)
        → (S32x1024.Idx → Elt F .f32)}
      {hx : (oB.access (rA o i8)).Stores Finset.univ}
      {hm : (Finset.univ : Finset (rA o i8).shape.Idx) = Finset.univ ∨ ∀ a, (rA o i8).stride a = 1} {k is}
      (ho : o = ![64 * (c.val % 16) + 32 * (h % 2), 0]) (ho1 : o1 = ![64 * ((c.val % 4 + 1) % 4 % 4) + 32 * (h % 2), 0]) (ho2 : o2 = ![64 * ((c.val % 4 + 2) % 4 % 4) + 32 * (h % 2), 0])
      (ho3 : o3 = ![64 * ((c.val % 4 + 3) % 4 % 4) + 32 * (h % 2), 0])
      (hs1 : SemLoc.dma s1 = sl (rsCell c 1 h)) (hs2 : SemLoc.dma s2 = sl (rsCell c 2 h)) (hs3 : SemLoc.dma s3 = sl (rsCell c 3 h))
      (hN1 : b1.view.dmaCredit = N) (hN2 : b2.view.dmaCredit = N) (hN3 : b3.view.dmaCredit = N)
      (hw : ∀ v1 v2 v3 v4 v5 v6, w v1 v2 v3 v4 v5 v6 = k0_pay4 (k0_pay3 (k0_pay2 (k0_pay1 v1 v2) v3) v4) v5 v6) (hk : Real c (k ⟨⟩) is) :
      Real c (.op (.load xQ (rA o inb).toLoadRect l1) fun v1 => .op (.load yB (rA o i2).toLoadRect l2) fun v2 =>
            .op (.waitDma2 s1 a1 b1 x1 y1) fun _ => .op (.load sB (rS o1 i3).toLoadRect l3) fun v3 =>
            .op (.waitDma2 s2 a2 b2 x2 y2) fun _ => .op (.load sB (rS o2 i4).toLoadRect l4) fun v4 =>
            .op (.waitDma2 s3 a3 b3 x3 y3) fun _ => .op (.load sB (rS o3 i5).toLoadRect l5) fun v5 =>
            .op (.load gB (Rect.unit (s := S1024) ![0] S1024.size i6).toLoadRect l6) fun v6 => .op (.load oB (rA o i7).toLoadRect l7) fun _ =>
            .op (.store oB (rA o i8) (w v1 v2 v3 v4 v5 v6) Finset.univ hx hm) k) (.comp h :: is)
  | split {b h q p is} (hk : Real c p is) : Real c p (.split b h q :: is)
  | join {b h q p is} (hk : Real c p is) : Real c p (.join b h q :: is)

variable (I : Inputs F) (κ : KI → ℕ)

/-- One step of the list run in the logic, from what the step needs and yields. -/
theorem frame_step {c : ℕ} {i : Ins} {is : List Ins} {st : List (ℕ × Atom)} {rem : List (ℕ × ℕ)} {fin : List (ℕ × Atom)} {p p' : Pr F} {Q : PUnit.{1} → sProp 𝕄} {Z : sProp 𝕄}
    (h : exec c (i :: is) st rem = some fin)
    (hstep : ∀ rem', payOff (pays i) rem = some rem' → ok c rem' i = true →
      (iprop(ctx I κ ∗ sepA I (need c i) ∗ owesL c rem) ⊢ iprop(((sepA I (give c i) ∗ owesL c rem') -∗ wpc c p' Q) -∗ wpc c p Q)))
    (ih : ∀ st rem, exec c is st rem = some fin → (iprop(ctx I κ ∗ sepA I (atoms st) ∗ owesL c rem ∗ Z) ⊢ wpc c p' Q)) :
    iprop(ctx I κ ∗ sepA I (atoms st) ∗ owesL c rem ∗ Z) ⊢ wpc c p Q := by
  obtain ⟨rem', st', h1, h2, h3, h4⟩ := exec_cons h
  have hs := hstep rem' h1 h2
  have hi := ih _ _ h4
  rw [atoms_push, sepA_append] at hi
  rw [sepA_perm I (rmAll_perm h3), sepA_append]
  iintro ⟨#Hc, ⟨Hn, Hst⟩, HO, Hz⟩
  iapply hs $$ [Hn HO]
  · isplitr; · iexact Hc
    isplitl [Hn]; · iexact Hn
    iexact HO
  iintro ⟨Hg, HO⟩
  iapply hi
  isplitr; · iexact Hc
  isplitl [Hg Hst]
  · isplitl [Hg]; · iexact Hg
    iexact Hst
  isplitl [HO]; · iexact HO
  iexact Hz

theorem above_ok {c l : ℕ} {rem : List (ℕ × ℕ)} {i : Ins} (h : ok c rem i = true) (hl : waitLvl i = some l) : ∀ p ∈ rem, l < lvl p.2 := (ok_fits h).2 l hl

/-- A step without an instruction. -/
theorem step_none {c : ℕ} {l l' : List Atom} {rem : List (ℕ × ℕ)} {p : Pr F} {Q : PUnit.{1} → sProp 𝕄} (h : sepA I l ⊢ sepA I l') :
    iprop(ctx I κ ∗ sepA I l ∗ owesL c rem) ⊢ iprop(((sepA I l' ∗ owesL c rem) -∗ wpc c p Q) -∗ wpc c p Q) := by
  iintro ⟨-, Hl, HO⟩ Hk
  iapply Hk
  isplitl [Hl]
  · iapply h; iexact Hl
  iexact HO

/-- A program that carries out a list of steps runs, from the resources and debts on which the list runs. -/
theorem real_run {c : Dev nD} {p : Pr F} {is : List Ins} (hr : Real c p is) (fin : List (ℕ × Atom)) (Q : PUnit.{1} → sProp 𝕄) :
    ∀ (st : List (ℕ × Atom)) (rem : List (ℕ × ℕ)), exec c.val is st rem = some fin →
      (iprop(ctx I κ ∗ sepA I (atoms st) ∗ owesL c.val rem ∗ ((sepA I (atoms fin) ∗ owesL c.val []) -∗ Q ⟨⟩)) ⊢ wpc c.val p Q) := by
  have hc : c.val < 16 := c.isLt
  induction hr with
  | done =>
    intro st rem h
    obtain ⟨rfl, rfl⟩ := exec_nil h
    unfold wpc
    iintro ⟨-, Hs, HO, Hk⟩
    rw [wp_ret]
    imodintro
    iapply Hk
    isplitl [Hs]; · iexact Hs
    iexact HO
  | @dev k is hk ih =>
    intro st rem h
    have hi := ih st rem h
    unfold wpc at hi ⊢
    rw [wp_deviceId]
    rw [show (k (dv c.val : Thread nD τ).1 : Pr F) = k c by rw [show ((dv c.val : Thread nD τ).1 : Dev nD) = c from dv_val c]]
    exact hi
  | @sig w s n d i k is hw hs hn hk ih =>
    subst hw hs hn
    intro st rem h
    refine frame_step I κ h (fun rem' hp ho => ?_) ih
    obtain ⟨hf, -⟩ := ok_fits ho
    rw [payOff_one hp]
    have := step_sig I κ (c := c.val) (rem := rem') (k := k) (R := Q) hf.1 hf.2
    refine this.trans ?_
    rw [show sepA I (give c.val (.sig d i)) = (iprop(emp) : sProp 𝕄) from rfl]
    iintro Hk Hk'
    iapply Hk
    iintro HO
    iapply Hk'
    isplitr
    · iempintro
    iexact HO
  | @bwait s n k is hs hn hk ih =>
    subst hs hn
    intro st rem h
    refine frame_step I κ h (fun rem' hp ho => ?_) ih
    rw [payOff_nil hp]
    exact step_bwait I κ hc (above_ok ho rfl)
  | @wait n sem src dst h1 h2 k is hs hN hk ih =>
    intro st rem h
    refine frame_step I κ h (fun rem' hp ho => ?_) ih
    rw [payOff_nil hp]
    exact step_wait I κ hc (ok_fits ho).1.1 (ok_fits ho).1.2 (above_ok ho rfl) hs hN
  | osend hw ho hS hR hk ih =>
    subst hw ho hS hR
    intro st rem h
    refine frame_step I κ h (fun rem' hp ho => ?_) ih
    rw [payOff_one hp]
    exact step_osend I κ hc (ok_fits ho).1
  | rsend hw ho ho' hS hR hk ih =>
    subst hw ho ho' hS hR
    intro st rem h
    refine frame_step I κ h (fun rem' hp ho => ?_) ih
    rw [payOff_one hp]
    exact step_rsend I κ hc (ok_fits ho).1
  | comp ho ho1 ho2 ho3 hs1 hs2 hs3 hN1 hN2 hN3 hw hk ih =>
    subst ho ho1 ho2 ho3
    intro st rem h
    refine frame_step I κ h (fun rem' hp ho => ?_) ih
    rw [payOff_nil hp]
    exact step_comp I κ hc (ok_fits ho).1 (above_ok ho rfl) hs1 hs2 hs3 hN1 hN2 hN3 hw
  | split hk ih =>
    intro st rem h
    refine frame_step I κ h (fun rem' hp ho => ?_) ih
    rw [payOff_nil hp]
    refine step_none I κ ?_
    simp only [need, give, sepA_two, sepA_one]
    exact Entails.of_eq (o_halves I (ok_fits ho).1 _ _ _)
  | join hk ih =>
    intro st rem h
    refine frame_step I κ h (fun rem' hp ho => ?_) ih
    rw [payOff_nil hp]
    refine step_none I κ ?_
    simp only [need, give, sepA_two, sepA_one]
    exact Entails.of_eq (o_halves I (ok_fits ho).1 _ _ _).symm

end AllReduce
-- ==== Proof.Prog.lean ====
/-
  The kernel's body carries out the steps of the protocol.
-/
module

public import proofs.«01_k».proof.Proof.Real

@[expose] public section

noncomputable section

namespace AllReduce

open Cert.KernelIdeal Cert.KernelIdeal.Gen
open Idealize.ShloMosaic
open Idealize.ShloMosaic.TcCoe
open Idealize.SL.Sem

variable {F : FTy → Type} [FloatOps F]

/-- A part of the body on the kernel's buffers and semaphores. -/
abbrev on {α : Sort*} (f : (arg0 : Memref sig .tc .vmem S1x1024x1024 .f32) → arg0.IsWhole → (arg1 : Memref sig .tc .vmem S1024x1024 .f32) → arg1.IsWhole →
    (arg2 : Memref sig .tc .vmem S1024 .f32) → arg2.IsWhole → (arg3 : Memref sig .tc .vmem S1024x1024 .f32) → arg3.IsWhole → (arg4 : Memref sig .tc .vmem S256x1024 .f32) → arg4.IsWhole →
    DmaSems sig S4x2 → DmaSems sig S3x2 → DmaSems sig S4x2 → DmaSems sig S3x2 → DmaSems sig S4x2 → DmaSems sig S4x2 → DmaSems sig S4x2 → DmaSems sig S12 → DmaSems sig S12 → α) : α :=
  f xB (Memref.isWhole_whole _) yB (Memref.isWhole_whole _) gB (Memref.isWhole_whole _) oB (Memref.isWhole_whole _) sB (Memref.isWhole_whole _)
    cc0_scratch1 cc0_scratch2 cc0_scratch3 cc0_scratch4 cc0_scratch5 cc0_scratch6 cc0_scratch7 cc0_scratch8 cc0_scratch9

set_option maxHeartbeats 4000000 in
set_option maxRecDepth 100000 in
/-- The body, unfolded, carries out the steps in order: each operation matches its step, and devices, semaphores and offsets agree on all sixteen devices. -/
theorem real_body (c : Dev nD) : Real (F := F) c (on cc0_body) (instrs c) := by
  simp only [on, cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, semSignalWord, semWaitWord, Prog.lift, Prog.bind_op, Prog.bind_ret, Prog.pure_eq_ret]
  simp only [instrs, barSteps, rsSteps, ownSteps, peerSteps, nbrSteps, acrossSteps, sentSteps, joinSteps, List.flatMap_cons, List.flatMap_nil, List.map_cons, List.map_nil, List.cons_append, List.nil_append, List.append_nil]
  refine Real.dev ?_
  repeat' first
    | refine Real.wait ?_ rfl ?_
    | refine Real.osend ?_ ?_ ?_ ?_ ?_
    | refine Real.split ?_
    | refine Real.join ?_
    | refine Real.rsend ?_ ?_ ?_ ?_ ?_ ?_
    | refine Real.comp ?_ ?_ ?_ ?_ ?_ ?_ ?_ rfl rfl rfl (fun _ _ _ _ _ _ => rfl) ?_
    | refine Real.sig ?_ rfl rfl ?_
    | refine Real.bwait rfl rfl ?_
    | exact Real.done
  all_goals (clear * - c; revert c; decide +kernel)

end AllReduce
-- ==== Proof.Runs.lean ====
/-
  The sixteen devices' step lists run: every resource a step uses is there when the step comes, every payment comes in the order it is owed, every wait is below all that is then owed.
-/
module

public import proofs.«01_k».proof.Proof.Proto

@[expose] public section

namespace AllReduce

set_option maxHeartbeats 0 in
/-- Each device's steps run from what it has at the start and what it owes, and leave what it is to have at the end. -/
theorem instrs_run : ∀ c < 16, (exec c (instrs c) (push (start c) []) (dues c)).bind (fun st => rmAll (finish c) st) = some [] := by decide +kernel

end AllReduce
-- ==== Proof.Launch.lean ====
/-
  The launch: what each device's body starts from and ends with, and the run of all sixteen.
-/
module

public import proofs.«01_k».proof.Proof.Deal
public import proofs.«01_k».proof.Proof.Split
public import proofs.«01_k».proof.Proof.Real
public import proofs.«01_k».proof.Proof.Prog
public import proofs.«01_k».proof.Proof.Runs
public import proofs.«01_k».proof.Proof.Exec
public import Idealize.ShloMosaic.Lib.Pipeline.CollectiveSegs

@[expose] public section

noncomputable section

namespace AllReduce

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay allPays credOf launchCred_tallyL cred_tallyL)

variable {F : FTy → Type} [FloatOps F]

local notation "𝕄" => MT nD τ sig ℕ (Elt F) ℕ UU ℕ

variable (m : (ℓ : Loc nD τ sig) → Buf (Elt F) ℓ) (ρ : Dev nD → PrngReg)

/-- The state at the launch: the given memory, every counter at zero. -/
def s₀ : MemSt nD τ sig (Elt F) := ⟨m, fun _ => 0, ρ⟩

/-- What the copies in bring to the three input buffers of every device. -/
def inputs : Inputs F where
  X c := (win0_0.blk (0 : Fin 1)).view.read (Elt F) ((s₀ m ρ).mem ((c : Thread nD τ).loc main_arg0))
  Y c := (win0_1.blk (0 : Fin 1)).view.read (Elt F) ((s₀ m ρ).mem ((c : Thread nD τ).loc main_arg1))
  G c := (win0_2.blk (0 : Fin 1)).view.read (Elt F) ((s₀ m ρ).mem ((c : Thread nD τ).loc main_arg2))

variable (I : Inputs F)

/-! ## What the body starts from and ends with -/

/-- The landing buffer at any contents. -/
def scr (c : Dev nD) : sProp 𝕄 := iprop(∃ g : Buf (Elt F) ((c : Thread nD τ).loc cc0_scratch0), ((c : Thread nD τ).loc cc0_scratch0) ↦{fullShare} g)

/-- The cells' invariants under some names, and what the device holds of the exchange. -/
def begin₀ (c : Dev nD) : sProp 𝕄 := iprop((∃ κ, ctx I κ ∗ sepA I (startPos c.val)) ∗ sepA I (startTok c.val) ∗ sepA I (startCred c.val))
def Φ₀ (c : Dev nD) : sProp 𝕄 := iprop(begin₀ I c ∗ scr c)
/-- At the end: all counters at zero, and the landing buffer. -/
def Φ₁ (c : Dev nD) : sProp 𝕄 := iprop((bigSep Finset.univ fun k : Fin 77 => semVal (kcell (c, k)) 0) ∗ scr c)

/-- What a device owes at the launch. -/
def O₀ (c : Dev nD) : CellTallies nD τ sig ℕ := tallyL (dueL c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inputs m ρ).X c
    | ⟨1, _⟩ => (inputs m ρ).Y c
    | ⟨2, _⟩ => (inputs m ρ).G c
    | ⟨3, _⟩ => OUT (inputs m ρ)
  Φ t := match t with
    | ⟨0, _⟩ => Φ₀ (inputs m ρ) c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The four staging buffers and the landing buffer are what the protocol starts with. -/
theorem bufs_in (c : Dev nD) (f : (cc0_stg3_0 : Ref sig .tc).ty.Contents (Elt F)) (g : (cc0_scratch0 : Ref sig .tc).ty.Contents (Elt F)) :
    iprop(((c : Thread nD τ).loc cc0_stg0_0 ↦{fullShare} I.X c) ∗ ((c : Thread nD τ).loc cc0_stg1_0 ↦{fullShare} I.Y c)
        ∗ ((c : Thread nD τ).loc cc0_stg2_0 ↦{fullShare} I.G c) ∗ ((c : Thread nD τ).loc cc0_stg3_0 ↦{fullShare} f)
        ∗ ((c : Thread nD τ).loc cc0_scratch0 ↦{fullShare} g))
      ⊢ (sepA I (startBufs c.val) : sProp 𝕄) := by
  have h := start_bufs I c.val f g
  rw [dv_val] at h
  exact h

theorem bufs_out (c : Dev nD) :
    (sepA I (endBufs c.val) : sProp 𝕄) ⊢ iprop(((c : Thread nD τ).loc cc0_stg0_0 ↦{fullShare} I.X c) ∗ ((c : Thread nD τ).loc cc0_stg1_0 ↦{fullShare} I.Y c)
        ∗ ((c : Thread nD τ).loc cc0_stg2_0 ↦{fullShare} I.G c) ∗ ((c : Thread nD τ).loc cc0_stg3_0 ↦{fullShare} OUT I)
        ∗ scr c) := by
  have h := end_bufs I c.val
  rw [dv_val] at h
  exact h

theorem atoms_nil_perm {c : Dev nD} {st : List (ℕ × Atom)} (h : rmAll (finish c.val) st = some []) : (sepA I (atoms st) : sProp 𝕄) = iprop(sepA I (endPos c.val) ∗ sepA I (endBufs c.val)) := by
  have hp := rmAll_perm h
  rw [show atoms [] = [] from rfl, List.append_nil] at hp
  rw [sepA_perm I hp]
  unfold finish
  rw [sepA_append]

/-- What the body leaves, before the cells close: their invariants, the ends of the protocol, nothing owed. -/
theorem body_run (κ : KI → ℕ) (c : Dev nD) {p : Pr F} (hp : Real c p (instrs c)) (Q : PUnit.{1} → sProp 𝕄) :
    iprop(ctx I κ ∗ (sepA I (startTok c.val) ∗ sepA I (startCred c.val) ∗ sepA I (startPos c.val) ∗ sepA I (startBufs c.val)) ∗ owesL c.val (dues c.val)
        ∗ ((sepA I (endPos c.val) ∗ sepA I (endBufs c.val) ∗ owesL c.val []) -∗ |={Set.univ}=> Q ⟨⟩))
      ⊢ wp frame (wpE (defs₀ (F := F)) 𝒱₀ c none) Set.univ p Q := by
  obtain ⟨fin, hfin, hrm⟩ := Option.bind_eq_some_iff.mp (instrs_run c.val c.isLt)
  have hrun := real_run I κ hp fin (fun _ => iprop(|={Set.univ}=> Q ⟨⟩)) _ _ hfin
  rw [atoms_push, atoms_nil_perm I hrm] at hrun
  unfold wpc at hrun
  rw [dv_val, show atoms [] = [] from rfl, List.append_nil] at hrun
  unfold start at hrun
  rw [sepA_append, sepA_append, sepA_append] at hrun
  refine .trans ?_ (hrun.trans (wp_fupd _ _ _ _ _))
  iintro ⟨Hc, ⟨H1, H2, H3, H4⟩, Ho, Hk⟩
  isplitl [Hc]; · iexact Hc
  isplitl [H1 H2 H3 H4]
  · isplitl [H1 H2 H3]
    · isplitl [H1 H2]
      · isplitl [H1]; · iexact H1
        iexact H2
      iexact H3
    iexact H4
  isplitl [Ho]; · iexact Ho
  iintro ⟨⟨Ha, Hb⟩, Ho⟩
  iapply Hk
  isplitl [Ha]; · iexact Ha
  isplitl [Hb]; · iexact Hb
  iexact Ho

def bodyPre (c : Dev nD) : sProp 𝕄 :=
  iprop(Φ₀ (inputs m ρ) c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt 0 t₀.succ ∗ stg c cc0_stg0_0 ((inputs m ρ).X c) ∗ stg c cc0_stg1_0 ((inputs m ρ).Y c) ∗ stg c cc0_stg2_0 ((inputs m ρ).G c)
    ∗ stg c cc0_stg3_0 (OUT (inputs m ρ)))

theorem before_0 (c : Dev nD) (d) : (dats m ρ 0 c).before (0 : Fin 4) t₀ d = (inputs m ρ).X c := by unfold Dat.before; rw [if_pos (fetch_0 t₀)]; rfl
theorem before_1 (c : Dev nD) (d) : (dats m ρ 0 c).before (1 : Fin 4) t₀ d = (inputs m ρ).Y c := by unfold Dat.before; rw [if_pos (fetch_1 t₀)]; rfl
theorem before_2 (c : Dev nD) (d) : (dats m ρ 0 c).before (2 : Fin 4) t₀ d = (inputs m ρ).G c := by unfold Dat.before; rw [if_pos (fetch_2 t₀)]; rfl

theorem owes_in (c : Dev nD) : (dats m ρ 0 c).owesAt 0 t₀.castSucc ⊢ (owesL c.val (dues c.val) : sProp 𝕄) := by
  unfold owesL Dat.owesAt Pipeline.owesWithin
  rw [dv_val, show (dats m ρ 0 c).owed t₀.castSucc = tallyL ((dues c.val).map payOf) from rfl]
  iintro ⟨%W, %hW, H⟩
  iexists W
  iexact H

theorem owes_out (c : Dev nD) : (owesL c.val [] : sProp 𝕄) ⊢ (dats m ρ 0 c).owesAt 0 t₀.succ := by
  unfold owesL Dat.owesAt Pipeline.owesWithin
  rw [dv_val, show (dats m ρ 0 c).owed t₀.succ = tallyL (([] : List (ℕ × ℕ)).map payOf) from rfl]
  iintro ⟨%W, H⟩
  iexists W
  isplitr; · ipureintro; exact fun _ _ => Or.inl trivial
  iexact H

/-- The body runs from what the launch and the copies in give to what the copies out and the end take. -/
theorem body_sound (c : Dev nD) {p : Pr F} (hp : Real c p (instrs c)) : bodyPre m ρ c ⊢ wp frame (wpE (defs₀ (F := F)) 𝒱₀ c none) Set.univ p (fun _ => bodyPost m ρ c) := by
  have hoi := owes_in m ρ c
  have hoo := owes_out m ρ c
  have hbo := bufs_out (inputs m ρ) c
  unfold bodyPre bodyPost Φ₀ begin₀ Φ₁ scr
  simp only [before_0, before_1, before_2]
  iintro ⟨⟨⟨⟨%κ, #Hc, Hpos⟩, Htok, Hcred⟩, ⟨%g, Hg⟩⟩, Ho, ⟨%d0, %f0, %h0, H0⟩, ⟨%d1, %f1, %h1, H1⟩, ⟨%d2, %f2, %h2, H2⟩, ⟨%d3, %f3, %h3, H3⟩⟩
  subst h0
  subst h1
  subst h2
  ihave Hb := (bufs_in (inputs m ρ) c f3 g) $$ [H0 H1 H2 H3 Hg]
  · isplitl [H0]; · iexact H0
    isplitl [H1]; · iexact H1
    isplitl [H2]; · iexact H2
    isplitl [H3]; · iexact H3
    iexact Hg
  iapply (body_run (inputs m ρ) κ c hp fun _ => _)
  isplitr; · iexact Hc
  isplitl [Htok Hcred Hpos Hb]
  · isplitl [Htok]; · iexact Htok
    isplitl [Hcred]; · iexact Hcred
    isplitl [Hpos]; · iexact Hpos
    iexact Hb
  isplitl [Ho]; · iapply hoi; iexact Ho
  iintro ⟨He, Hb, Ho⟩
  imod (close_cells (inputs m ρ) κ c) $$ [He] with Hz
  · isplitr; · iexact Hc
    iexact He
  ihave Hb' := hbo $$ Hb
  unfold scr
  icases Hb' with ⟨H0, H1, H2, H3, Hg⟩
  imodintro
  isplitl [Hz Hg]
  · isplitl [Hz]; · iexact Hz
    iexact Hg
  isplitl [Ho]; · iapply hoo; iexact Ho
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 100000 in
/-- The launch theorem's obligation on the body. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  exact body_sound m ρ c (p := on cc0_body) (real_body c)

/-! ## The launch -/

theorem share_eq (c : Dev nD) (w : Fin cfg0.W) : (dats m ρ 0 c).share w = fullShare := by unfold Dat.share; split <;> rfl

/-- The number of a semaphore. -/
def semNo : SemLoc sig → ℕ
  | .reg _ => 0
  | .dma s => s.val

theorem semNo_sl (k : Fin 77) : semNo (sl (num k)) = num k := by revert k; decide +kernel

theorem kcell_injective : Function.Injective kcell := by
  rintro ⟨c, k⟩ ⟨c', k'⟩ h
  have h1 : dv c.val = dv c'.val := congrArg (fun g : GSem nD τ sig => g.1.1) h
  have h2 : semNo (sl (num k)) = semNo (sl (num k')) := congrArg (fun g : GSem nD τ sig => semNo g.2) h
  rw [semNo_sl, semNo_sl] at h2
  rw [dv_val, dv_val] at h1
  have h3 : k.val = k'.val := by unfold num at h2; split at h2 <;> split at h2 <;> omega
  rw [h1, Fin.ext h3]

/-- All cells of the exchange. -/
def cellSet : Finset (GSem nD τ sig) := Finset.univ.map ⟨kcell, kcell_injective⟩

/-- The ghost state at the launch. -/
def u₀ : UU := (initOf (Pipeline.cells cfgs cellOf_inj) (Pipeline.launchToks cfgs cellOf_inj), initOf cellSet tokSet)

/-- What of it goes to device c. -/
def G (c : Dev nD) : sProp 𝕄 :=
  iprop((bigSep Finset.univ fun k : Fin 77 => roundState ER (Rd I) (kcell (c, k)) 0)
    ∗ (bigSep Finset.univ fun k : Fin 77 => reached ER (kcell (c, k)) 0) ∗ (bigSep Finset.univ fun k : Fin 77 => atPos ER (kcell (c, k)) 0 ∅ 0) ∗ sepA I (startTok c.val))

/-- What all cells' invariants and rounds are known to be. -/
def known (κ : KI → ℕ) : sProp 𝕄 := bigSep Finset.univ fun x : KI => iprop(cellInv ER (Rd I) (κ x) (kcell x) ∗ reached ER (kcell x) 0)

instance known_persistent (κ : KI → ℕ) : BI.Persistent (known I κ) := by unfold known; infer_instance

/-- What device c has after the cells are opened. -/
def G' (c : Dev nD) : sProp 𝕄 := iprop(∃ κ, known I κ ∗ (bigSep Finset.univ fun k : Fin 77 => atPos ER (kcell (c, k)) 0 ∅ 0) ∗ sepA I (startTok c.val))

theorem fund_cells : BI.own (ER (initOf cellSet tokSet)) ⊢ (|==> bigSep Finset.univ (G I) : sProp 𝕄) := by
  have hX (Φ : GSem nD τ sig → sProp 𝕄) : bigSep cellSet Φ = bigSep Finset.univ fun c : Dev nD => bigSep Finset.univ fun k : Fin 77 => Φ (kcell (c, k)) := by
    unfold cellSet; rw [bigSep_map, bigSep_univ_prod]; rfl
  have h := Rounds.fund ER (Rd I) cellSet tokSet
  rw [hX, hX, hX, toks_deal I, ← bigSep_sep', ← bigSep_sep', ← bigSep_sep'] at h
  exact h

theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k : Fin 77 => reached ER (kcell (c, k)) 0) ∗ (bigSep Finset.univ fun k : Fin 77 => atPos ER (kcell (c, k)) 0 ∅ 0) ∗ sepA I (startTok c.val)) := by
  have hsem := Entails.of_eq (counters (F := F) c)
  unfold G
  iintro ⟨Hos, Hus, Hst, Hrest⟩
  ihave Hv := hsem $$ [Hos Hus]
  · isplitl [Hus]; · iexact Hus
    iexact Hos
  imod (show iprop((bigSep Finset.univ fun k : Fin 77 => semVal (kcell (c, k)) 0) ∗ bigSep Finset.univ fun k : Fin 77 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv]; · iexact Hv
    iexact Hst
  imodintro
  isplitl [Hinv]; · iexact Hinv
  iexact Hrest

theorem regroup :
    (bigSep Finset.univ fun c : Dev nD => iprop((bigSep Finset.univ fun k => iprop(∃ κ : ℕ, cellInv ER (Rd I) κ (kcell (c, k))))
          ∗ (bigSep Finset.univ fun k : Fin 77 => reached ER (kcell (c, k)) 0) ∗ (bigSep Finset.univ fun k : Fin 77 => atPos ER (kcell (c, k)) 0 ∅ 0) ∗ sepA I (startTok c.val)) : sProp 𝕄)
      ⊢ bigSep Finset.univ (G' I) := by
  rw [bigSep_sep', bigSep_sep', ← bigSep_univ_prod (fun x : KI => iprop(∃ κ : ℕ, cellInv ER (Rd I) κ (kcell x))),
    ← bigSep_univ_prod (fun x : KI => (reached ER (kcell x) 0 : sProp 𝕄))]
  iintro ⟨HI, HR, Hrest⟩
  ihave HK := (BI.bigSep_exists_pi Finset.univ (fun (x : KI) (κ : ℕ) => (cellInv ER (Rd I) κ (kcell x) : sProp 𝕄))) $$ HI
  icases HK with ⟨%K, HI⟩
  iapply (with_known (R := known I K) (Φ := fun c : Dev nD => iprop((bigSep Finset.univ fun k : Fin 77 => atPos ER (kcell (c, k)) 0 ∅ 0) ∗ sepA I (startTok c.val)))
    fun c _ => show iprop(known I K ∗ _) ⊢ G' I c from by
      unfold G'
      iintro ⟨H, H'⟩
      iexists K
      isplitl [H]; · iexact H
      iexact H')
  isplitl [HI HR]
  · unfold known
    iapply (Entails.of_eq (bigSep_sep' Finset.univ (fun x : KI => (cellInv ER (Rd I) (K x) (kcell x) : sProp 𝕄)) (fun x => reached ER (kcell x) 0)).symm)
    isplitl [HI]; · iexact HI
    iexact HR
  · iexact Hrest

/-- All devices' counters become the cells' invariants. -/
theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

theorem start_intro (c : Dev nD) :
    iprop(Pipeline.unscopedRestP Pipeline.Prefetch.none cfg0.spec c (fun b => m ((c : Thread nD τ).loc b)) ∗ levAts (SiteBlocks.L 6) SiteBlocks.lv
        ∗ Pipeline.launchCred O₀ c ∗ prngReg c (ρ c) ∗ G' I c)
      ⊢ |={Set.univ}=> iprop(begin₀ I c ∗ emp) := by
  have hcr : Pipeline.launchCred O₀ c ⊢ (sepA I (startCred c.val) : sProp 𝕄) := Entails.of_eq (cred_deal I c)
  have hpos := pos_deal I c
  unfold G' begin₀
  iintro ⟨-, Hlev, Hcr, -, ⟨%κ, Hk, Hpos, Htok⟩⟩
  ihave Hc := hcr $$ Hcr
  ihave Hp := hpos $$ Hpos
  imodintro
  isplitl
  · isplitl [Hlev Hk Hp]
    · iexists κ
      isplitl [Hlev Hk]
      · unfold ctx known
        isplitl [Hlev]; · iexact Hlev
        iexact Hk
      iexact Hp
    isplitl [Htok]; · iexact Htok
    iexact Hc
  · iempintro

theorem phi0_intro (c : Dev nD) :
    iprop(begin₀ (inputs m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (inputs m ρ) c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  have hsem := Entails.of_eq (counters (F := F) c).symm
  rw [show (dats m ρ 0 c).Φ (Fin.last cfg0.N) = Φ₁ c from rfl, scopedRest0_eq]
  unfold Φ₁ scr
  iintro ⟨Hz, Hr⟩
  ihave H := hsem $$ Hz
  icases H with ⟨Hu, Ho⟩
  isplitl [Hu]; · iexact Hu
  isplitl [Ho]; · iexact Ho
  iexact Hr

theorem dues_pos : ∀ c < 16, ∀ p ∈ dues c, 0 < lvl p.2 := by decide +kernel

theorem waits (c : Dev nD) : (levAts (SiteBlocks.L 6) SiteBlocks.lv : sProp 𝕄) ⊢ Pipeline.cellsWaits cfgs (dats m ρ) 0 0 c :=
  Pipeline.cellsWaits_intro cfgs (dats m ρ) 0 0 c fun w s t => by
    rcases t with ⟨_ | _, ht⟩
    · have h := mayWait_above (F := F) (c := c.val) (l := 0) (by decide) (.dma ((cfgs 0).win w |>.sem s)) (dues_pos c.val c.isLt)
      rw [dv_val] at h
      exact h
    · show _ ⊢ MayWait _ _ _ 0
      rw [MayWait_zero]; iintro -; iempintro

/-! ## The run -/

/-- What window w's array holds on device c at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with all counters at zero, every fair run of the sixteen devices ends, with each window's array at its final contents and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := SiteBlocks.L 6) (lv := SiteBlocks.lv) (hL := SiteBlocks.hL 6) (hwaits := waits m ρ)
    (G := G (inputs m ρ)) (G' := G' (inputs m ρ)) (u₀ := u₀)
    (hu₀ := by
      unfold u₀
      iintro Hu
      ihave H := (ownU_pair _ _) $$ Hu
      icases H with ⟨HP, HX⟩
      imod (fund_cells (inputs m ρ)) $$ HX with HG
      imodintro
      isplitl [HP] <;> iassumption)
    (hglob := glob (inputs m ρ))
    (hA := fun _ _ => rfl) (hpf := fun _ k => k.elim0)
    (X := begin₀ (inputs m ρ)) (Y := fun c => unscopedSems0 c) (Z := fun _ => iprop(emp))
    (hX := start_intro m ρ (inputs m ρ)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end AllReduce
-- ==== Proof.Ref.lean ====
/-
  The reference over the extended reals, at an index.
-/
module

public import proofs.«01_k».proof.Proof.Gen.ReferenceIdeal.Run
public import Idealize.ShloMosaic.Lib.Pointwise

@[expose] public section

noncomputable section

namespace AllReduce

open Cert.ReferenceIdeal Cert.ReferenceIdeal.Gen
open Idealize.ShloMosaic

/-- The normalised sum at one entry: s is the row that is normalised, g the weight of the entry's column. -/
def normed (s : Fin 1024 → EReal) (g : EReal) (j : Fin 1024) : EReal :=
  Ideal.div (s j) (Ideal.sqrt (Ideal.div (∑ k, s k * s k) (Ideal.ofBits .f32 0x44800000#32) + Ideal.ofBits .f32 0x358637BD#32)) * g

/-- The sum over the four pieces and the residual. -/
def total (x : S4x1024x1024.Idx → Elt Ideal .f32) (y : S1024x1024.Idx → Elt Ideal .f32) : S1024x1024.Idx → Elt Ideal .f32 :=
  addf (F := Ideal) (φ := .f32) (Host.reduceAdd x (constant S_ .f32 0x00000000#32) reducesTo_S4x1024x1024_S1024x1024_d0 h_S_) y

/-- The reference's result, as a term of its three arguments. -/
def refOut (x : S4x1024x1024.Idx → Elt Ideal .f32) (y : S1024x1024.Idx → Elt Ideal .f32) (g : S1024.Idx → Elt Ideal .f32) : S1024x1024.Idx → Elt Ideal .f32 :=
  mulf (F := Ideal) (φ := .f32)
    (Host.divf (total x y) (broadcastInDim S1024x1024 ![0, 1] bcast_S1024x1_S1024x1024_0_1
      (Host.sqrt (addf (Host.divf (broadcastInDim S1024x1 ![0] bcast_S1024_S1024x1_0 (Host.reduceAdd (mulf (total x y) (total x y)) (constant S_ .f32 0x00000000#32) reducesTo_S1024x1024_S1024_d1 h_S_))
        (broadcastInDim S1024x1 ![] bcast_S_S1024x1 (constant S_ .f32 0x44800000#32))) (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

set_option maxRecDepth 16384 in
/-- The reference at an index: the row's sum of the four pieces and the residual, normalised. -/
theorem refOut_apply (x : S4x1024x1024.Idx → Elt Ideal .f32) (y : S1024x1024.Idx → Elt Ideal .f32) (g : S1024.Idx → Elt Ideal .f32) (i j : Fin 1024) :
    refOut x y g (ix2 i j) = normed (fun k => (∑ z : Fin 4, x (ix3 z i k)) + y (ix2 i k)) (g (ix1 j)) j := by
  pointwise [refOut, total, normed]

end AllReduce
-- ==== Proof.Value.lean ====
/-
  The value over the extended reals: the kernel's result is the reference's, on every device.
-/
module

public import proofs.«01_k».proof.Proof.Launch
public import proofs.«01_k».proof.Proof.Ref
public import Idealize.ShloMosaic.Lib.Pointwise
public import Idealize.ShloMosaic.Lib.Pipeline.Value
public import Idealize.ShloMosaic.Lib.Layout

@[expose] public section

noncomputable section

namespace AllReduce

open Cert.KernelIdeal Cert.KernelIdeal.Gen
open Idealize.ShloMosaic
open Idealize.ShloMosaic.TcCoe

/-! ## Scalars -/

/-- Multiplying by the reciprocal root is dividing by the root, of anything positive. -/
theorem mul_rsqrt {a : EReal} (h : 0 < a) (y : EReal) : y * Ideal.rsqrt a = Ideal.div y (Ideal.sqrt a) := by
  induction a with
  | bot => exact absurd h (by simp)
  | top => rw [Ideal.rsqrt_top, Ideal.sqrt_top]; unfold Ideal.div; rw [if_neg (by simp), EReal.inv_top]
  | coe r =>
    have hr : 0 < r := EReal.coe_pos.mp h
    rw [Ideal.rsqrt_coe, Ideal.sqrt_coe, if_neg (not_lt.mpr hr.le), if_neg hr.ne', if_neg (not_lt.mpr hr.le)]
    unfold Ideal.div
    rw [if_neg (by exact_mod_cast (Real.sqrt_pos.mpr hr).ne'), EReal.coe_inv]

/-- The small constant is positive. -/
theorem eps_pos : 0 < Ideal.ofBits .f32 0x358637BD#32 := by
  have h : Ideal.ofBits .f32 0x358637BD#32 = ((8796093 * 2 ^ (-43 : ℤ) : ℝ) : EReal) := by
    simp [Ideal.ofBits, Ideal.ieee, -EReal.coe_mul]
  rw [h]
  exact EReal.coe_pos.mpr (by positivity)

/-- The row's length is a positive real. -/
theorem size_pos : ∃ r : ℝ, 0 < r ∧ Ideal.ofBits .f32 0x44800000#32 = (r : EReal) := by
  refine ⟨8388608 * 2 ^ (-13 : ℤ), by positivity, ?_⟩
  simp [Ideal.ofBits, Ideal.ieee, -EReal.coe_mul]

/-- A square is never negative. -/
theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- The mean of squares plus the small constant is positive. -/
theorem mean_pos (f : Fin 1024 → EReal) : 0 < Ideal.div (∑ k, f k * f k) (Ideal.ofBits .f32 0x44800000#32) + Ideal.ofBits .f32 0x358637BD#32 := by
  obtain ⟨r, hr, he⟩ := size_pos
  have h : 0 ≤ Ideal.div (∑ k, f k * f k) (Ideal.ofBits .f32 0x44800000#32) := by
    rw [he, Ideal.div_coe hr.ne']
    exact mul_nonneg (Finset.sum_nonneg fun k _ => square_nonneg _) (EReal.coe_nonneg.mpr (by positivity))
  exact lt_of_lt_of_le eps_pos (le_add_of_nonneg_left h)

/-! ## The kernel's arithmetic at an index -/

set_option maxRecDepth 16384 in
/-- A chunk's arithmetic at an index: the row's sum of the five terms, normalised. -/
theorem kernel_apply (a y b c d : S32x1024.Idx → Elt Ideal .f32) (g : S1024.Idx → Elt Ideal .f32) (r : Fin 32) (j : Fin 1024) :
    k0_pay4 (F := Ideal) (k0_pay3 (k0_pay2 (k0_pay1 a y) b) c) d g (ix2 r j)
      = normed (fun k => a (ix2 r k) + y (ix2 r k) + b (ix2 r k) + c (ix2 r k) + d (ix2 r k)) (g (ix1 j)) j := by
  unfold normed
  rw [← mul_rsqrt (mean_pos _)]
  pointwise [k0_pay4, k0_pay3, k0_pay2, k0_pay1]

/-! ## The pieces -/

/-- The first input's buffer without its leading axis, read. -/
theorem xQ_read (f : S1x1024x1024.Idx → Elt Ideal .f32) (i j : Fin 1024) : xQ.view.read (Elt Ideal) f (ix2 i j) = f (ix3 0 i j) := by
  have hc : (S1x1024x1024 : Shape).ShapeCasts S1024x1024 := squeezes_S1x1024x1024_S1024x1024.numel_eq
  have h : xQ.view.read (Elt Ideal) f = shapeCast S1024x1024 f hc := by
    have e : xQ.view.read (Elt Ideal) f = shapeCast S1024x1024 (xB.view.readAt (Elt Ideal) (Rect.unit ![0, 0, 0] S1x1024x1024.size inb_S1x1024x1024_S1x1024x1024_0_0_0).toLoadRect f) hc := rfl
    rw [e]
    exact congrArg (fun v => shapeCast S1024x1024 v hc) (Memref.readAt_unit_zero (Elt Ideal) cc0_stg0_0 (by funext a; fin_cases a <;> rfl) _ f)
  rw [h]
  pointwise

/-- Where row r of chunk (b, h) is in the buffer. -/
theorem chunk_ix (b h : ℕ) (r : Fin 32) (j : Fin 1024) : (oV b h).view.emb (ix2 r j) = ix2 (n0 := 1024) (n1 := 1024) ⟨64 * (b % 16) + 32 * (h % 2) + r.val, by omega⟩ j := by
  funext a
  match a with
  | ⟨0, _⟩ => exact Fin.ext (oV_emb0 b h _)
  | ⟨1, _⟩ => exact Fin.ext (oV_emb1 b h _)

/-- A chunk of the first input, read at an index. -/
theorem xchunk_apply (I : Inputs Ideal) (d b h : ℕ) (r : Fin 32) (j : Fin 1024) : xchunk I d b h (ix2 r j) = I.X (dv d) (ix3 0 ⟨64 * (b % 16) + 32 * (h % 2) + r.val, by omega⟩ j) := by
  rw [← xQ_read (I.X (dv d)), ← chunk_ix]
  rfl

/-- A chunk of the residual, read at an index. -/
theorem ychunk_apply (I : Inputs Ideal) (d b h : ℕ) (r : Fin 32) (j : Fin 1024) : ychunk I d b h (ix2 r j) = I.Y (dv d) (ix2 ⟨64 * (b % 16) + 32 * (h % 2) + r.val, by omega⟩ j) := by
  rw [← chunk_ix]
  rfl

/-! ## The arrays -/

variable (m : (ℓ : Loc nD τ sig) → Buf (Elt Ideal) ℓ) (ρ : Dev nD → PrngReg)

/-- Each window's one block starts at zero. -/
theorem start0 (w : Fin 4) : (fun a => (win0 w).index (0 : Fin 1) a * (win0 w).size a) = fun _ => 0 :=
  match w with
  | 0 => funext fun a => Nat.zero_mul _
  | 1 => funext fun a => Nat.zero_mul _
  | 2 => funext fun a => Nat.zero_mul _
  | 3 => funext fun a => Nat.zero_mul _

/-- The copies in bring the whole arguments. -/
theorem inputs_X (c : Dev nD) : (inputs m ρ).X c = m ((c : Thread nD τ).loc main_arg0) := by
  show (win0_0.blk (0 : Fin 1)).view.read (Elt Ideal) (m ((c : Thread nD τ).loc main_arg0)) = _
  exact Memref.read_access_unit_zero (Elt Ideal) main_arg0 (start0 0) (fun a => by fin_cases a <;> decide) _
theorem inputs_Y (c : Dev nD) : (inputs m ρ).Y c = m ((c : Thread nD τ).loc main_arg1) := by
  show (win0_1.blk (0 : Fin 1)).view.read (Elt Ideal) (m ((c : Thread nD τ).loc main_arg1)) = _
  exact Memref.read_access_unit_zero (Elt Ideal) main_arg1 (start0 1) (fun a => by fin_cases a <;> decide) _
theorem inputs_G (c : Dev nD) : (inputs m ρ).G c = m ((c : Thread nD τ).loc main_arg2) := by
  show (win0_2.blk (0 : Fin 1)).view.read (Elt Ideal) (m ((c : Thread nD τ).loc main_arg2)) = _
  exact Memref.read_access_unit_zero (Elt Ideal) main_arg2 (start0 2) (fun a => by fin_cases a <;> decide) _

/-- Every index is in the rectangle of the buffer's own sizes at offsets zero. -/
theorem mem_whole {b : Ref sig .tc} {off : Fin b.ty.shape.rank → ℕ} (h : off = fun _ => 0) (inb : ∀ a, off a + b.ty.shape.size a ≤ b.ty.shape.size a) (i : b.ty.shape.Idx) :
    i ∈ ((Memref.whole b).access (Rect.unit off b.ty.shape.size inb)).set := by
  subst h
  show i ∈ ((Memref.whole b).access (Rect.whole _)).set
  simp

/-- The result's array at the end. -/
theorem finalA_out (c : Dev nD) : finalA m ρ c 3 = OUT (inputs m ρ) :=
  (dats m ρ 0 c).arrAt_eq_of_cover 3 (OUT (inputs m ρ))
    (fun t _ => by
      obtain rfl : t = (0 : Fin 1) := Subsingleton.elim (α := Fin 1) _ _
      exact (Memref.read_access_unit_zero (Elt Ideal) main_v1 (start0 3) (fun a => by fin_cases a <;> decide) _).symm)
    (fun i => ⟨(0 : Fin 1), (by decide +kernel : win0_3.flush (0 : Fin 1) = true), mem_whole (b := main_v1) (start0 3) (fun a => by fin_cases a <;> decide) i⟩)

/-! ## The result is the reference's -/

/-- What the devices' inputs are of the reference's: the first the device's quarter of the array, by its z, the others all of it. -/
structure Agree (I : Inputs Ideal) (x : Cert.ReferenceIdeal.S4x1024x1024.Idx → Elt Ideal .f32) (y : Cert.ReferenceIdeal.S1024x1024.Idx → Elt Ideal .f32) (g : Cert.ReferenceIdeal.S1024.Idx → Elt Ideal .f32) : Prop where
  hX : ∀ (d : ℕ) (i j : Fin 1024), I.X (dv d) (ix3 0 i j) = x (ix3 ⟨d % 4, Nat.mod_lt _ (by decide)⟩ i j)
  hY : ∀ c, I.Y c = y
  hG : ∀ c, I.G c = g

/-- Device d's quarter of the whole first input is the one of its z. -/
theorem quarter_ix (d : ℕ) (i j : Fin 1024) :
    Layout.TilesN.idx (S := ⟨3, ![1, 1024, 1024]⟩) (T := ⟨3, ![4, 1024, 1024]⟩) (by decide) (Layout.meshBlock [2, 2, 4] ![[2], [], []] (dv d)) (ix3 (n0 := 1) 0 i j)
      = ix3 (n0 := 4) ⟨d % 4, Nat.mod_lt _ (by decide)⟩ i j := by
  funext a
  refine Fin.ext ?_
  rw [Layout.TilesN.idx_val, Layout.meshBlock_val]
  match a with
  | ⟨0, _⟩ =>
    show Layout.meshLin [2, 2, 4] (d % 16) [2] * 1 + 0 = d % 4
    have h : ∀ c : Fin 16, Layout.meshLin [2, 2, 4] c.val [2] = c.val % 4 := by decide
    have := h ⟨d % 16, Nat.mod_lt _ (by decide)⟩
    dsimp only at this
    omega
  | ⟨1, _⟩ => show 0 * 1024 + i.val = i.val; omega
  | ⟨2, _⟩ => show 0 * 1024 + j.val = j.val; omega

/-- The own piece, the residual and the three peers' pieces, in the order of their arrival, are the four pieces and the residual. -/
theorem peers_sum (f : Fin 4 → EReal) (y : EReal) (z : Fin 4) : f z + y + f (z + 1) + f (z + 2) + f (z + 3) = (∑ z, f z) + y := by
  rw [Fin.sum_univ_four]
  fin_cases z
  · show f 0 + y + f 1 + f 2 + f 3 = _; ac_rfl
  · show f 1 + y + f 2 + f 3 + f 0 = _; ac_rfl
  · show f 2 + y + f 3 + f 0 + f 1 = _; ac_rfl
  · show f 3 + y + f 0 + f 1 + f 2 = _; ac_rfl

/-- The kernel's result is the reference's. -/
theorem OUT_eq {I : Inputs Ideal} {x : Cert.ReferenceIdeal.S4x1024x1024.Idx → Elt Ideal .f32} {y : Cert.ReferenceIdeal.S1024x1024.Idx → Elt Ideal .f32} {g : Cert.ReferenceIdeal.S1024.Idx → Elt Ideal .f32}
    (hI : Agree I x y g) : OUT I = refOut x y g := by
  funext i
  obtain ⟨i, j, rfl⟩ : ∃ (a b : Fin 1024), i = ix2 a b := ⟨i 0, i 1, eq_ix2 i⟩
  have hi := i.isLt
  rw [refOut_apply]
  show outChunk I (i.val / 64) (i.val / 32 % 2) (inChunk (ix2 i j)) = _
  have hc : inChunk (ix2 i j) = ix2 ⟨i.val % 32, Nat.mod_lt _ (by decide)⟩ j := by
    funext a
    match a with
    | ⟨0, _⟩ => rfl
    | ⟨1, _⟩ => rfl
  have hr : (⟨64 * (i.val / 64 % 16) + 32 * (i.val / 32 % 2 % 2) + i.val % 32, by omega⟩ : Fin 1024) = i := Fin.ext (by dsimp only; omega)
  rw [hc]
  unfold outChunk
  rw [kernel_apply]
  simp only [xchunk_apply, ychunk_apply, hI.hX, hI.hY, hI.hG, hr]
  congr 1
  funext k
  rw [← peers_sum (fun z => x (ix3 z i k)) _ ⟨i.val / 64 % 4, Nat.mod_lt _ (by decide)⟩]
  have e : ∀ n : Fin 4, (⟨(4 * (i.val / 64 / 4) + (i.val / 64 % 4 + n.val) % 4) % 4, Nat.mod_lt _ (by decide)⟩ : Fin 4) = ⟨i.val / 64 % 4, Nat.mod_lt _ (by decide)⟩ + n := fun n =>
    Fin.ext (by rw [Fin.val_add]; dsimp only; omega)
  rw [← e 1, ← e 2, ← e 3]
  rfl

end AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.KernelIdeal Cert.KernelIdeal.Gen

/-- The program's run leaves its three arguments as they were, at any float values. -/
theorem args_kept {F : FTy → Type} [FloatOps F] (m : (ℓ : Loc nD τ sig) → Buf (Elt F) ℓ) (ρ : Dev nD → PrngReg) {r : PUnit × MemSt nD τ sig (Elt F)}
    (h : AllReduce.QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c (0 : Fin 4)).trans ((AllReduce.dats m ρ 0 c).arrAt_in (0 : Fin 4) rfl _),
    (h c (1 : Fin 4)).trans ((AllReduce.dats m ρ 0 c).arrAt_in (1 : Fin 4) rfl _),
    (h c (2 : Fin 4)).trans ((AllReduce.dats m ρ 0 c).arrAt_in (2 : Fin 4) rfl _)⟩

set_option maxRecDepth 100000 in
/-- The two programs have the same text: their tables of bodies are the same. -/
theorem bodies_eq {F : FTy → Type} [FloatOps F] : Cert.Kernel.defs₀ (F := F) = Cert.KernelIdeal.defs₀ (F := F) := by
  refine congrArg (Defs.onTc (τ := Cert.Kernel.τ)) ?_
  funext l a
  match l, a with
  | 0, (t, s) => rfl

set_option maxRecDepth 100000 in
theorem defs_eq {F : FTy → Type} [FloatOps F] : Cert.Kernel.defs (F := F) = Cert.KernelIdeal.defs (F := F) := by
  unfold Cert.Kernel.defs Cert.KernelIdeal.defs
  rw [bodies_eq]
  rfl

/-- The program at float values ends with its arguments unchanged and all counters at zero. -/
theorem frame_p : Cert.quiescent_Kernel := by
  intro m ρ _
  rw [defs_eq]
  exact (θ_run Cert.KernelIdeal.defs _ _).mono (fun _ h => (⟨args_kept m ρ h.1, h.2⟩ : _ ∧ _)) (AllReduce.run_main (F := Bits) m ρ)

/-- So does the program over the extended reals. -/
theorem frame_pi : Cert.quiescent_KernelIdeal := fun m ρ _ =>
  (θ_run Cert.KernelIdeal.defs _ _).mono (fun _ h => ⟨args_kept m ρ h.1, h.2⟩) (AllReduce.run_main (F := Ideal) m ρ)

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the whole of the reference's. -/
theorem algebraic : Cert.algebraic_KernelIdeal_ReferenceIdeal := by
  intro m ρ m' ρ' _ hagree
  refine ⟨AllReduce.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run Cert.KernelIdeal.defs _ _).mono (fun _ h c => ⟨?_, args_kept m ρ h.1 c⟩) (AllReduce.run_main (F := Ideal) m ρ)
    refine (h.1 c (3 : Fin 4)).trans ((AllReduce.finalA_out m ρ c).trans (AllReduce.OUT_eq ⟨fun d i j => ?_, fun c => ?_, fun c => ?_⟩))
    · rw [AllReduce.inputs_X, (hagree _).1, Layout.blockN_apply]
      exact congrArg _ (AllReduce.quarter_ix d i j)
    · rw [AllReduce.inputs_Y]; exact (hagree c).2.1
    · rw [AllReduce.inputs_G]; exact (hagree c).2.2
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, trivial, algebraic⟩

end Cert.Proof

end
